-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048x8192 : Shape := ⟨2, ![2048, 8192]⟩
abbrev S4096x2048 : Shape := ⟨2, ![4096, 2048]⟩
abbrev S2048 : Shape := ⟨1, ![2048]⟩
abbrev S2048x2x16x256 : Shape := ⟨4, ![2048, 2, 16, 256]⟩
abbrev S2048x16x2x256 : Shape := ⟨4, ![2048, 16, 2, 256]⟩
abbrev S16384x2048 : Shape := ⟨2, ![16384, 2048]⟩
abbrev S1x2048 : Shape := ⟨2, ![1, 2048]⟩
abbrev S16384x4096 : Shape := ⟨2, ![16384, 4096]⟩
abbrev S16384x1 : Shape := ⟨2, ![16384, 1]⟩
abbrev S256x2048 : Shape := ⟨2, ![256, 2048]⟩
abbrev S256x4096 : Shape := ⟨2, ![256, 4096]⟩
abbrev S256x1 : Shape := ⟨2, ![256, 1]⟩
abbrev S256x128 : Shape := ⟨2, ![256, 128]⟩
abbrev S2048x512 : Shape := ⟨2, ![2048, 512]⟩
abbrev S256x512 : Shape := ⟨2, ![256, 512]⟩
abbrev S256x256 : Shape := ⟨2, ![256, 256]⟩
abbrev S256 : Shape := ⟨1, ![256]⟩
abbrev S256x246 : Shape := ⟨2, ![256, 246]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4096x2048, .fp8e4m3⟩
  | .hbm, ⟨3, _⟩ => ⟨S2048, .f32⟩
  | .hbm, ⟨4, _⟩ => ⟨S2048x8192, .bf16⟩
  | .hbm, ⟨5, _⟩ => ⟨S2048x2x16x256, .bf16⟩
  | .hbm, ⟨6, _⟩ => ⟨S2048x16x2x256, .bf16⟩
  | .hbm, ⟨7, _⟩ => ⟨S2048x8192, .bf16⟩
  | .hbm, ⟨8, _⟩ => ⟨S16384x2048, .f32⟩
  | .hbm, ⟨9, _⟩ => ⟨S1x2048, .f32⟩
  | .hbm, ⟨10, _⟩ => ⟨S16384x2048, .f32⟩
  | .hbm, ⟨11, _⟩ => ⟨S16384x4096, .fp8e4m3⟩
  | .hbm, ⟨12, _⟩ => ⟨S16384x1, .f32⟩
  | .local _ .vmem, ⟨0, _⟩ => ⟨S256x2048, .f32⟩
  | .local _ .vmem, ⟨1, _⟩ => ⟨S256x2048, .f32⟩
  | .local _ .vmem, ⟨2, _⟩ => ⟨S2048x8192, .bf16⟩
  | .local _ .vmem, ⟨3, _⟩ => ⟨S4096x2048, .fp8e4m3⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x4096, .fp8e4m3⟩
  | .local _ .vmem, ⟨8, _⟩ => ⟨S256x4096, .fp8e4m3⟩
  | .local _ .vmem, ⟨9, _⟩ => ⟨S256x1, .f32⟩
  | .local _ .vmem, ⟨10, _⟩ => ⟨S256x1, .f32⟩
  | .local _ .vmem, ⟨11, _⟩ => ⟨S256x2048, .bf16⟩
  | .local _ .vmem, ⟨12, _⟩ => ⟨S256x4096, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4096x2048 : Shape := ⟨3, ![4, 4096, 2048]⟩
abbrev S2048x8192 : Shape := ⟨2, ![2048, 8192]⟩
abbrev S4096x2048 : Shape := ⟨2, ![4096, 2048]⟩
abbrev S2048 : Shape := ⟨1, ![2048]⟩
abbrev S16384x2048 : Shape := ⟨2, ![16384, 2048]⟩
abbrev S1x2048 : Shape := ⟨2, ![1, 2048]⟩
abbrev S16384x4096 : Shape := ⟨2, ![16384, 4096]⟩
abbrev S16384x1 : Shape := ⟨2, ![16384, 1]⟩
abbrev S16384x8192 : Shape := ⟨2, ![16384, 8192]⟩
abbrev S16384 : Shape := ⟨1, ![16384]⟩
abbrev S1x247 : Shape := ⟨2, ![1, 247]⟩
abbrev S16384x247 : Shape := ⟨2, ![16384, 247]⟩

abbrev nBuf : Space → Nat
  | .hbm => 10
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4096x2048, .fp8e4m3⟩
  | .hbm, ⟨3, _⟩ => ⟨S2048, .f32⟩
  | .hbm, ⟨4, _⟩ => ⟨S16384x2048, .f32⟩
  | .hbm, ⟨5, _⟩ => ⟨S2048x8192, .bf16⟩
  | .hbm, ⟨6, _⟩ => ⟨S1x2048, .f32⟩
  | .hbm, ⟨7, _⟩ => ⟨S16384x2048, .f32⟩
  | .hbm, ⟨8, _⟩ => ⟨S16384x4096, .fp8e4m3⟩
  | .hbm, ⟨9, _⟩ => ⟨S16384x1, .f32⟩
  | .local _ .vmem, ⟨0, _⟩ => ⟨S16384x2048, .f32⟩
  | .local _ .vmem, ⟨1, _⟩ => ⟨S2048x8192, .bf16⟩
  | .local _ .vmem, ⟨2, _⟩ => ⟨S4096x2048, .fp8e4m3⟩
  | .local _ .vmem, ⟨3, _⟩ => ⟨S1x2048, .f32⟩
  | .local _ .vmem, ⟨4, _⟩ => ⟨S16384x2048, .f32⟩
  | .local _ .vmem, ⟨5, _⟩ => ⟨S16384x4096, .fp8e4m3⟩
  | .local _ .vmem, ⟨6, _⟩ => ⟨S16384x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/- The layer as plain mathematics on one row: extended reals indexed by column numbers, no program in sight.
   Both programs are shown to compute these functions row by row. -/
module

public import Idealize.ShloMosaic.PureOps.Ideal
public import Idealize.ShloMosaic.PureOps.Ideal.Laws
public import Idealize.ShloMosaic.Lib.IdealHost
public import Idealize.ShloMosaic.Lib.IndicatorCount

@[expose] public section

noncomputable section

namespace Cert.Spec

open Idealize.ShloMosaic
open scoped BigOperators

/-- The gated activation `g · 1/(1 + e⁻ᵍ) · u`. -/
def act (g u : EReal) : EReal := g * Ideal.div 1 (1 + Ideal.exp (0 - g)) * u

/-- A row times one column of a weight matrix. -/
def dot {n : ℕ} (x : Fin n → EReal) (w : Fin n → EReal) : EReal := ∑ p, x p * w p

/-- The absolute value as both programs take it. -/
def mag (a : EReal) : EReal := max a (-a)

/-- A row's greatest magnitude. -/
def amax {n : ℕ} (h : Fin n → EReal) : EReal := Finset.univ.sup fun f => mag (h f)

/-- A power of two as an extended real. -/
def two (k : ℤ) : EReal := (((2 : ℝ) ^ k : ℝ) : EReal)

/-- The factor that stands for 1/448: the float nearest it. -/
def recip : EReal := Ideal.ofBits .f32 0x3B124925#32

/-- How many of the powers 2⁻¹²⁶ … 2¹¹⁹ are at most `r`. -/
def cnt (r : EReal) : ℕ := (Finset.univ.filter fun k : Fin 246 => two ((k.val : ℤ) - 126) ≤ r).card

/-- A row's scale from its greatest magnitude: the least power of two above the reduced magnitude, and 1 where that
    is 0 or infinite. -/
def scale (a : EReal) : EReal := if 0 < a * recip ∧ a * recip < ⊤ then two ((cnt (a * recip) : ℤ) - 126) else 1

/-- A row's codes: the values over the scale, limited to ±448. -/
def code (a h : EReal) : EReal :=
  min (Ideal.ofBits .f32 0x43E00000#32) (max (Ideal.ofBits .f32 0xC3E00000#32) (h * Ideal.div 1 (scale a)))

/-- A row's entry of the output: its codes against one column `d` of the down-projection, times the row's scale
    and the column's scale `s`. -/
def out {n : ℕ} (h d : Fin n → EReal) (s : EReal) : EReal :=
  dot (fun f => code (amax h) (h f)) d * scale (amax h) * s

/-- A magnitude is not negative. -/
theorem mag_nonneg (a : EReal) : 0 ≤ mag a := by
  unfold mag
  rcases le_total 0 a with h | h
  · exact le_max_of_le_left h
  · exact le_max_of_le_right (EReal.neg_nonneg.2 h)

/-- A bound of the greatest magnitude is a bound of every magnitude. -/
theorem amax_le {n : ℕ} (h : Fin n → EReal) (b : EReal) : amax h ≤ b ↔ ∀ f, mag (h f) ≤ b := by
  simp [amax, Finset.sup_le_iff]

/-- A word of sign 0, exponent field `n` in the normal range and fraction 0 denotes `2^(n − 127)`. -/
theorem ieee_fields (b : BitVec 32) (n : ℕ) (hf : (b.extractLsb' 0 23).toNat = 0) (he : (b.extractLsb' 23 8).toNat = n)
    (hs : (b.extractLsb' (8 + 23) 1 == 1#1) = false) (h1 : 1 ≤ n) (h2 : n ≤ 254) : Ideal.ieee 8 23 b = two ((n : ℤ) - 127) := by
  unfold Ideal.ieee two
  simp only [hf, he, hs]
  have hn : n ≠ 2 ^ 8 - 1 := by norm_num; omega
  have hn0 : n ≠ 0 := by omega
  rw [if_neg hn, if_neg hn0]
  have e : ((n : ℤ) - (2 ^ (8 - 1) - 1) - ((23 : ℕ) : ℤ)) = ((n : ℤ) - 127) + (-23) := by norm_num; ring
  rw [e, zpow_add₀ (two_ne_zero : (2 : ℝ) ≠ 0)]
  refine congrArg _ ?_
  norm_num
  ring

/-- The word with exponent field `n` and zero fraction denotes `2^(n − 127)`. -/
theorem ofBits_shift (n : ℕ) (h1 : 1 ≤ n) (h2 : n ≤ 254) :
    Ideal.ofBits .f32 (BitVec.ofNat 32 n <<< 23) = two ((n : ℤ) - 127) := by
  have hall : ∀ i : Fin 256, ((BitVec.ofNat 32 i.val <<< 23).extractLsb' 0 23).toNat = 0
      ∧ ((BitVec.ofNat 32 i.val <<< 23).extractLsb' 23 8).toNat = i.val
      ∧ ((BitVec.ofNat 32 i.val <<< 23).extractLsb' (8 + 23) 1 == 1#1) = false := by decide +kernel
  obtain ⟨hf, he, hs⟩ := hall ⟨n, by omega⟩
  exact ieee_fields _ n hf he hs h1 h2

/-- In a downward closed set of numbers below `N`, the members are the numbers below its size. -/
theorem initial {N : ℕ} (p : Fin N → Prop) [DecidablePred p] (h : ∀ i j : Fin N, i ≤ j → p j → p i) (i : Fin N) :
    p i ↔ i.val < (Finset.univ.filter p).card := by
  constructor
  · intro hi
    have : (Finset.Iic i).card ≤ (Finset.univ.filter p).card :=
      Finset.card_le_card fun j hj => Finset.mem_filter.2 ⟨Finset.mem_univ _, h j i (Finset.mem_Iic.1 hj) hi⟩
    rw [Fin.card_Iic] at this; omega
  · intro hi
    by_contra hn
    have : (Finset.univ.filter p).card ≤ (Finset.Iio i).card :=
      Finset.card_le_card fun j hj => Finset.mem_Iio.2 (lt_of_not_ge fun hij => hn (h i j hij (Finset.mem_filter.1 hj).2))
    rw [Fin.card_Iio] at this; omega

theorem two_mono {j k : ℤ} (h : j ≤ k) : two j ≤ two k :=
  EReal.coe_le_coe_iff.2 (zpow_le_zpow_right₀ (by norm_num) h)

theorem cnt_le (r : EReal) : cnt r ≤ 246 := by
  unfold cnt
  exact (Finset.card_le_univ _).trans (by simp)

/-- The counted powers are the first `cnt r` ones. -/
theorem two_le_iff (r : EReal) (k : Fin 246) : two ((k.val : ℤ) - 126) ≤ r ↔ k.val < cnt r :=
  initial (fun k : Fin 246 => two ((k.val : ℤ) - 126) ≤ r) (fun i j hij hj => (two_mono (by
    have : i.val ≤ j.val := hij
    omega)).trans hj) k

/-- The least of the powers 2⁻¹²⁶ … 2¹²⁰ above `r` (2¹²⁰ where none is) has exponent `cnt r − 126`. -/
theorem least_eq (r : EReal) (f : Fin 247 → EReal) (hf : ∀ k, f k = if r < two ((k.val : ℤ) - 126) then two ((k.val : ℤ) - 126) else two 120) :
    (Finset.univ : Finset (Fin 247)).fold min ⊤ f = two ((cnt r : ℤ) - 126) := by
  have hc := cnt_le r
  apply le_antisymm
  · rw [Finset.fold_min_le]
    right
    refine ⟨⟨cnt r, by omega⟩, Finset.mem_univ _, ?_⟩
    rw [hf]
    split_ifs with h
    · exact le_rfl
    · rcases Nat.lt_or_ge (cnt r) 246 with hl | hl
      · exact absurd ((two_le_iff r ⟨cnt r, hl⟩).1 (not_lt.1 h)) (lt_irrefl _)
      · exact two_mono (by omega)
  · rw [Finset.le_fold_min]
    refine ⟨le_top, fun k _ => ?_⟩
    rw [hf]
    split_ifs with h
    · apply two_mono
      have hk : cnt r ≤ k.val := by
        by_contra hlt
        have h246 : k.val < 246 := by omega
        exact absurd ((two_le_iff r ⟨k.val, h246⟩).2 (by simpa using Nat.lt_of_not_ge hlt)) (not_le.2 h)
      omega
    · exact two_mono (by omega)

/-- The word of the exponent `cnt − 126` (0 where the reduced magnitude is 0 or infinite). -/
def expWord (a : EReal) : BitVec 32 :=
  if 0 < a * recip ∧ a * recip < ⊤ then BitVec.ofNat 32 (cnt (a * recip)) - 126#32 else 0#32

/-- The word of the exponent, biased and shifted into place, denotes the scale. -/
theorem scale_word (a : EReal) : Ideal.ofBits .f32 (IntOp.shli .vector (expWord a + 127#32) 23#32) = scale a := by
  have e : IntOp.shli .vector (expWord a + 127#32) 23#32 = (expWord a + 127#32) <<< 23 := rfl
  rw [e]
  unfold expWord scale
  split_ifs with h
  · have hc := cnt_le (a * recip)
    have e2 : BitVec.ofNat 32 (cnt (a * recip)) - 126#32 + 127#32 = BitVec.ofNat 32 (cnt (a * recip) + 1) := by
      apply BitVec.eq_of_toNat_eq; simp [BitVec.toNat_sub, BitVec.toNat_add]; omega
    rw [e2, ofBits_shift _ (by omega) (by omega)]
    congr 1; push_cast; ring
  · have := ofBits_shift 127 (by omega) (by omega)
    rw [show (0#32 + 127#32) = BitVec.ofNat 32 127 from rfl, this]; simp [two]

/-- The word of the negated exponent, biased and shifted into place, denotes the reciprocal of the scale. -/
theorem inv_word (a : EReal) : Ideal.ofBits .f32 (IntOp.shli .vector (0#32 - expWord a + 127#32) 23#32) = Ideal.div 1 (scale a) := by
  have e : IntOp.shli .vector (0#32 - expWord a + 127#32) 23#32 = (0#32 - expWord a + 127#32) <<< 23 := rfl
  rw [e]
  unfold expWord scale
  split_ifs with h
  · have hc := cnt_le (a * recip)
    have e2 : 0#32 - (BitVec.ofNat 32 (cnt (a * recip)) - 126#32) + 127#32 = BitVec.ofNat 32 (253 - cnt (a * recip)) := by
      apply BitVec.eq_of_toNat_eq; simp [BitVec.toNat_sub, BitVec.toNat_add]; omega
    rw [e2, ofBits_shift _ (by omega) (by omega)]
    unfold two
    rw [Ideal.div_coe (zpow_ne_zero _ two_ne_zero), one_mul, one_div, ← zpow_neg]
    congr 2
    push_cast [Nat.cast_sub (show cnt (a * recip) ≤ 253 by omega)]; ring
  · have := ofBits_shift 127 (by omega) (by omega)
    rw [show (0#32 - 0#32 + 127#32) = BitVec.ofNat 32 127 from rfl, this]
    have h1 := Ideal.div_coe (y := 1) one_ne_zero 1
    rw [EReal.coe_one] at h1
    rw [h1]; simp [two]

/-- The power the counting loop compares with: the word with exponent field `k + 1`. -/
theorem power_word (k : ℕ) (hk : k < 246) :
    Ideal.ofBits .f32 (IntOp.shli .vector (BitVec.ofNat 32 k - 126#32 + 127#32) 23#32) = two ((k : ℤ) - 126) := by
  have e : IntOp.shli .vector (BitVec.ofNat 32 k - 126#32 + 127#32) 23#32 = (BitVec.ofNat 32 k - 126#32 + 127#32) <<< 23 := rfl
  have e2 : BitVec.ofNat 32 k - 126#32 + 127#32 = BitVec.ofNat 32 (k + 1) := by
    apply BitVec.eq_of_toNat_eq; simp [BitVec.toNat_sub, BitVec.toNat_add]; omega
  rw [e, e2, ofBits_shift _ (by omega) (by omega)]
  congr 1; push_cast; ring

/-- The power the reference compares with: `2^(k − 126)` of the number `k − 126`. -/
theorem power_exp2 (k : ℕ) (hk : k < 247) :
    Ideal.exp2 (((BitVec.ofNat 32 k - 126#32).toInt : ℝ) : EReal) = two ((k : ℤ) - 126) := by
  have e : (BitVec.ofNat 32 k - 126#32).toInt = (k : ℤ) - 126 :=
    (by decide +kernel : ∀ i : Fin 247, (BitVec.ofNat 32 i.val - 126#32).toInt = (i.val : ℤ) - 126) ⟨k, hk⟩
  rw [e, Ideal.exp2_coe]
  unfold two
  congr 1
  exact Real.rpow_intCast 2 _

/-- The limit 2¹²⁰ as its word. -/
theorem top_word : Ideal.ofBits .f32 0x7B800000#32 = two 120 := by
  have := ofBits_shift 247 (by omega) (by omega)
  simpa using this

end Cert.Spec

end
-- ==== Proof.Rows.lean ====
/- Reductions, casts and broadcasts of a matrix, read at one row, at any height and width. -/
module

public import proofs.«01_k».proof.Proof.Spec
public import Idealize.ShloMosaic.Lib.MatmulPlain
public import Idealize.ShloMosaic.Lib.ValueIdx
public import Idealize.ShloMosaic.Lib.IndicatorCount
public import Idealize.ShloMosaic.Lib.Pipeline.Value

@[expose] public section

noncomputable section

namespace Cert.Rows

open Idealize.ShloMosaic Idealize.ShloMosaic.ValueIdx
open scoped BigOperators

variable {α : Type} {a n : ℕ}

/-- A column broadcast along the rows reads the column. -/
theorem bcast_col (v : (⟨2, ![a, 1]⟩ : Shape).Idx → α) (h : (⟨2, ![a, 1]⟩ : Shape).Broadcasts ⟨2, ![a, n]⟩)
    (p : Fin a) (c : Fin n) : broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column reads the vector. -/
theorem cast_col (x : (⟨1, ![a]⟩ : Shape).Idx → α) (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The dropped column coordinate put back beside the row. -/
theorem lift_row (h : (⟨2, ![a, n]⟩ : Shape).Reduces [1] ⟨1, ![a]⟩) (p : Fin a) (k : Fin n) : h.lift (ix1 p) k = ix2 p k := by
  funext c
  match c with
  | ⟨0, _⟩ => rfl
  | ⟨1, _⟩ => rfl

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- A row's maximum is at most `b` exactly when every entry is. -/
theorem max_row_le (x : FVec Ideal ⟨2, ![a, n]⟩ .f32) (h : (⟨2, ![a, n]⟩ : Shape).Reduces [1] ⟨1, ![a]⟩) (h2 h3) (p : Fin a) (b : EReal) :
    multiReduction .maximumf [1] ⟨1, ![a]⟩ x 0xFF800000#32 h h2 h3 (ix1 p) ≤ b ↔ ∀ l : Fin n, x (ix2 p l) ≤ b := by
  rw [Ideal.multiReduction_maximumf_single]
  show Finset.fold max (Ideal.ofBits .f32 0xFF800000#32) _ _ ≤ b ↔ _
  rw [ofBits_bot, Finset.fold_max_le]
  constructor
  · intro hx l
    have := hx.2 l (Finset.mem_univ _)
    exact (congrArg x (lift_row h p l)).symm.trans_le this
  · intro hx
    refine ⟨bot_le, fun l _ => ?_⟩
    exact (congrArg x (lift_row h p l)).trans_le (hx l)

/-- A row's minimum as a fold over the column numbers. -/
theorem min_row (x : FVec Ideal ⟨2, ![a, n]⟩ .f32) (h : (⟨2, ![a, n]⟩ : Shape).Reduces [1] ⟨1, ![a]⟩) (h2 h3) (p : Fin a) :
    multiReduction .minimumf [1] ⟨1, ![a]⟩ x 0x7F800000#32 h h2 h3 (ix1 p)
      = (Finset.univ : Finset (Fin n)).fold min ⊤ (fun k => x (ix2 p k)) := by
  rw [multiReduction_minimumf_eq_fold]
  refine (h.fold_filter_drop_single _ _ x (ix1 p)).trans ?_
  show Finset.fold min (Ideal.ofBits .f32 0x7F800000#32) _ _ = _
  rw [ofBits_top]
  refine congrArg (fun f => Finset.fold min (⊤ : EReal) f (Finset.univ : Finset (Fin n))) (funext fun k => ?_)
  rw [Function.comp_apply]
  exact congrArg x (lift_row h p k)

/-- The sum of a row of zero-extended truth values counts the true ones. -/
theorem count_row (q : IVec ⟨2, ![a, n]⟩ 1) (hq) (h : (⟨2, ![a, n]⟩ : Shape).Reduces [1] ⟨1, ![a]⟩) (h3) (p : Fin a) :
    multiReductionI .add [1] ⟨1, ![a]⟩ (extui 32 q hq) 0#32 h h3 (ix1 p)
      = BitVec.ofNat 32 (Finset.univ.filter fun k : Fin n => q (ix2 p k) = 1#1).card := by
  rw [multiReductionI_eq_fold]
  refine (h.fold_filter_drop_single _ _ (extui 32 q hq) (ix1 p)).trans ?_
  rw [← IndicatorCount.fold_addi_setWidth_eq_card (fun k : Fin n => q (ix2 p k)) Finset.univ]
  refine congrArg (fun f => Finset.fold IntOp.addi 0#32 f (Finset.univ : Finset (Fin n))) (funext fun k => ?_)
  rw [Function.comp_apply]
  exact congrArg (extui 32 q hq) (lift_row h p k)

/-- Two comparisons joined: the value is between the bounds. -/
theorem between (x lo hi : EReal) : Ideal.cmp .ogt x lo &&& Ideal.cmp .olt x hi = 1#1 ↔ lo < x ∧ x < hi := by
  unfold Ideal.cmp
  by_cases h1 : lo < x <;> by_cases h2 : x < hi <;> simp [h1, h2]

end Cert.Rows

end
-- ==== Proof.Tile.lean ====
/- The kernel body's values by name: one hidden tile, one step of the running greatest magnitude, and the entries
   of both as the plain mathematics of `Cert.Spec`. -/
module

public import proofs.«01_k».proof.Proof.Gen.KernelIdeal.Value
public import proofs.«01_k».proof.Proof.Rows
public import Idealize.ShloMosaic.Lib.MatmulPlain
public import Idealize.ShloMosaic.Lib.ValueLayout

@[expose] public section

set_option maxRecDepth 16384

noncomputable section

namespace Cert.Tile

open Cert.KernelIdeal Cert.KernelIdeal.Gen Idealize.ShloMosaic Idealize.ShloMosaic.ValueIdx Idealize.ShloMosaic.TcCoe Idealize.SL.Sem
open scoped BigOperators

/-- One hidden tile: the rows of activations against one 512-column slab of the tiled up-projection, gated. -/
def tile (v : Vec Ideal S256x2048 .bf16) (w : Vec Ideal S2048x512 .bf16) : FVec Ideal S256x256 .f32 := k0_pay3 v w

/-- One step of the running greatest magnitude: the tile's left and right lane halves folded in. -/
def step (a : FVec Ideal S256x128 .f32) (h : FVec Ideal S256x256 .f32) : FVec Ideal S256x128 .f32 :=
  maximumf (maximumf a (absf (extractStridedSlice S256x128 ![0, 0] h slices_S256x256_o0_0_S256x128)))
    (absf (extractStridedSlice S256x128 ![0, 128] h slices_S256x256_o0_128_S256x128))

/-- The running greatest magnitude before the first tile. -/
def start : FVec Ideal S256x128 .f32 := broadcast S256x128 (Scalar.ofBits .f32 0x00000000#32)

/-- The greatest entry of each row of lanes. -/
def rowMax (a : FVec Ideal S256x128 .f32) : FVec Ideal S256x1 .f32 :=
  shapeCast S256x1 (multiReduction .maximumf [1] S256 a 0xFF800000#32 reduces_S256x128_S256 (.inl rfl) rfl) shapeCasts_S256_S256x1

/-- The product a tile's halves are cut from. -/
def prod (v : Vec Ideal S256x2048 .bf16) (w : Vec Ideal S2048x512 .bf16) : FVec Ideal S256x512 .f32 :=
  matmul (φ₁ := .bf16) (φ₂ := .bf16) dot_S256x2048_S2048x512_S256x512_1_0_0_1_n_n none v w (constant S256x512 .f32 0x00000000#32)

/-- The gate half of the product. -/
def gate (v : Vec Ideal S256x2048 .bf16) (w : Vec Ideal S2048x512 .bf16) : FVec Ideal S256x256 .f32 :=
  extractStridedSlice S256x256 ![0, 0] (prod v w) slices_S256x512_o0_0_S256x256

/-- The up half of the product. -/
def up (v : Vec Ideal S256x2048 .bf16) (w : Vec Ideal S2048x512 .bf16) : FVec Ideal S256x256 .f32 :=
  extractStridedSlice S256x256 ![0, 256] (prod v w) slices_S256x512_o0_256_S256x256

/-- Which of the powers 2⁻¹²⁶ … 2¹¹⁹ are at most each row's reduced magnitude. -/
def table (m : FVec Ideal S256x1 .f32) : IVec S256x246 1 :=
  cmpf .ole (bitcastToFloat .f32 (shli (addi (subi (iota .tc S256x246 32 [1] iota_S256x246_d1_w32) (broadcast S256x246 126#32))
      (broadcast S256x246 127#32)) (broadcast S256x246 23#32)) : FVec Ideal S256x246 .f32)
    (broadcastTo S256x246 (mulf m (broadcast S256x1 (Scalar.ofBits .f32 0x3B124925#32))) broadcasts_S256x1_S256x246)

/-- Each row's reduced magnitude: the greatest magnitude over 448. -/
def ratio (m : FVec Ideal S256x1 .f32) : FVec Ideal S256x1 .f32 := mulf m (broadcast S256x1 (Scalar.ofBits .f32 0x3B124925#32))

/-- The number of those powers in each row. -/
def count (m : FVec Ideal S256x1 .f32) : IVec S256x1 32 :=
  shapeCast S256x1 (multiReductionI .add [1] S256 (extui 32 (table m) natLt_1_32) 0#32 reduces_S256x246_S256 rfl) shapeCasts_S256_S256x1

/-- Which rows' reduced magnitudes are positive. -/
def pos (m : FVec Ideal S256x1 .f32) : IVec S256x1 1 := cmpf .ogt (ratio m) (broadcast S256x1 (Scalar.ofBits .f32 0x00000000#32))

/-- The exponent word of each row. -/
def word (m : FVec Ideal S256x1 .f32) : IVec S256x1 32 := k0_pay63 m (ratio m) (count m) (pos m)

/-- The scale of each row, as its bits are put together. -/
def scales (m : FVec Ideal S256x1 .f32) : FVec Ideal S256x1 .f32 := k0_pay64 m (ratio m) (count m) (pos m)

/-- The inverse scale of each row, as its bits are put together. -/
def inverse (m : FVec Ideal S256x1 .f32) : FVec Ideal S256x1 .f32 :=
  bitcastToFloat .f32 (shli (addi (subi (broadcast S256x1 0#32) (word m)) (broadcast S256x1 127#32)) (broadcast S256x1 23#32))

/-- The codes of the rows of `h` from their greatest magnitudes. -/
def codes (m : FVec Ideal S256x1 .f32) (h : FVec Ideal S256x4096 .f32) : FVec Ideal S256x4096 .fp8e4m3 :=
  k0_pay65 m (ratio m) (count m) (pos m) h

variable (a : FVec Ideal S256x128 .f32) (v v' : Vec Ideal S256x2048 .bf16) (w w' : Vec Ideal S2048x512 .bf16)

/-! ## The running maximum's named values are steps over tiles -/

theorem pay5_eq : k0_pay5 v w = step start (tile v w) := rfl
theorem pay13_eq : k0_pay13 a (k0_pay7 v w) (k0_pay8 v w) v' w' = step (step a (tile v w)) (tile v' w') := rfl
theorem pay16_eq : k0_pay16 a v w = step a (tile v w) := rfl
theorem pay21_eq : k0_pay21 a (k0_pay17 v w) v' w' = step (step a (tile v w)) (tile v' w') := rfl
theorem pay30_eq : k0_pay30 a (k0_pay23 v w) (k0_pay24 v w) (k0_pay25 v w) (FloatOps.ofBits .f32 0x3F800000#32) v' w'
    = step (step a (tile v w)) (tile v' w') := rfl
theorem pay33_eq : k0_pay33 a v w = step a (tile v w) := rfl
theorem pay39_eq : k0_pay39 a (k0_pay34 v w) (k0_pay36 v w) v' w' = step (step a (tile v w)) (tile v' w') := rfl
theorem pay48_eq : k0_pay48 a (k0_pay41 v w) (k0_pay42 v w) (k0_pay43 v w) v' w' = step (step a (tile v w)) (tile v' w') := rfl
theorem pay56_eq : k0_pay56 a (k0_pay50 v w) (k0_pay51 v w) v' w' = step (step a (tile v w)) (tile v' w') := rfl
theorem pay59_eq : k0_pay59 a v w = rowMax (step a (tile v w)) := rfl

/-! ## The stored tiles -/

theorem pay4_eq : k0_pay4 v w = tile v w := shapeCast_self _ _
theorem pay10_eq : k0_pay10 (k0_pay7 v w) (k0_pay8 v w) = tile v w := shapeCast_self _ _
theorem pay12_eq : k0_pay12 v w = tile v w := shapeCast_self _ _
theorem pay15_eq : k0_pay15 v w = tile v w := shapeCast_self _ _
theorem pay18_eq : k0_pay18 (k0_pay17 v w) = tile v w := shapeCast_self _ _
theorem pay20_eq : k0_pay20 v w = tile v w := shapeCast_self _ _
theorem pay27_eq : k0_pay27 (k0_pay23 v w) (k0_pay24 v w) (k0_pay25 v w) (FloatOps.ofBits .f32 0x3F800000#32) = tile v w :=
  shapeCast_self _ _
theorem pay29_eq : k0_pay29 v w = tile v w := shapeCast_self _ _
theorem pay32_eq : k0_pay32 v w = tile v w := shapeCast_self _ _
theorem pay35_eq : k0_pay35 v w = tile v w := shapeCast_self _ _
theorem pay38_eq : k0_pay38 v w = tile v w := shapeCast_self _ _
theorem pay45_eq : k0_pay45 (k0_pay41 v w) (k0_pay42 v w) (k0_pay43 v w) = tile v w := shapeCast_self _ _
theorem pay47_eq : k0_pay47 v w = tile v w := shapeCast_self _ _
theorem pay53_eq : k0_pay53 (k0_pay50 v w) (k0_pay51 v w) = tile v w := shapeCast_self _ _
theorem pay55_eq : k0_pay55 v w = tile v w := shapeCast_self _ _
theorem pay58_eq : k0_pay58 v w = tile v w := shapeCast_self _ _

/-! ## Entries -/

theorem pay60_eq (m : FVec Ideal S256x1 .f32) (h : k0_pay59 a v w = m) : k0_pay60 a v w = ratio m := by
  subst h; rfl

theorem pay61_eq (m : FVec Ideal S256x1 .f32) (h : k0_pay59 a v w = m) : k0_pay61 a v w = count m := by
  subst h; rfl

theorem pay62_eq (m : FVec Ideal S256x1 .f32) (h : k0_pay59 a v w = m) : k0_pay62 a v w = pos m := by
  subst h; rfl

/-- The activation of a tile, entry by entry. -/
theorem tile_act : tile v w = fun i => Spec.act (gate v w i) (up v w i) := by
  have e : tile v w = mulf (mulf (gate v w) (divf (broadcast S256x256 (Scalar.ofBits .f32 0x3F800000#32))
      (addf (broadcast S256x256 (Scalar.ofBits .f32 0x3F800000#32)) (exp (subf (broadcast S256x256 (Scalar.ofBits .f32 0x00000000#32)) (gate v w))))))
      (up v w) := by
    unfold gate up prod
    rw [← shapeCast_self w shapeCasts_S2048x512_S2048x512]
    unfold tile k0_pay3
    simp only [shapeCast_self]
  rw [e]
  funext i
  show gate v w i * Ideal.div (Ideal.ofBits .f32 0x3F800000#32) (Ideal.ofBits .f32 0x3F800000#32
    + Ideal.exp (Ideal.ofBits .f32 0x00000000#32 - gate v w i)) * up v w i = _
  rw [Ideal.ofBits_one_f32, Ideal.ofBits_zero_f32]
  rfl

/-- Entry `(r, q)` of the product is the row against the column. -/
theorem prod_apply (r : Fin 256) (q : Fin 512) :
    prod v w (ix2 r q) = Spec.dot (fun p : Fin 2048 => v (ix2 r p)) (fun p => w (ix2 p q)) := by
  refine (Ideal.matmul_plain_apply (φ₁ := .bf16) (φ₂ := .bf16) (M := 256) (K := 2048) (N := 512) none v w (constant S256x512 .f32 0x00000000#32) r q).trans ?_
  show Ideal.ofBits .f32 0x00000000#32 + _ = _
  rw [Ideal.ofBits_zero_f32, zero_add]
  rfl

/-- Entry `(r, k)` of a hidden tile: the activation of the row's products with the slab's columns `k` and `256 + k`. -/
theorem tile_apply (r k : Fin 256) :
    tile v w (ix2 r k) = Spec.act (Spec.dot (fun p : Fin 2048 => v (ix2 r p)) (fun p => w (ix2 p ⟨k.val, by omega⟩)))
      (Spec.dot (fun p : Fin 2048 => v (ix2 r p)) (fun p => w (ix2 p ⟨256 + k.val, by omega⟩))) := by
  rw [tile_act]
  show Spec.act (gate v w (ix2 r k)) (up v w (ix2 r k)) = _
  unfold gate up
  rw [slice2_axis1_apply 0 _ _ r k ⟨k.val, by omega⟩ (by simp), slice2_axis1_apply 256 _ _ r k ⟨256 + k.val, by omega⟩ rfl,
    prod_apply, prod_apply]

/-- A step is at most `b` at a lane exactly when the running value and both halves' magnitudes are. -/
theorem step_le (h : FVec Ideal S256x256 .f32) (r : Fin 256) (l : Fin 128) (b : EReal) :
    step a h (ix2 r l) ≤ b ↔ a (ix2 r l) ≤ b ∧ Spec.mag (h (ix2 r ⟨l.val, by omega⟩)) ≤ b
      ∧ Spec.mag (h (ix2 r ⟨128 + l.val, by omega⟩)) ≤ b := by
  have e0 := slice2_axis1_apply 0 h slices_S256x256_o0_0_S256x128 r l ⟨l.val, by omega⟩ (by simp)
  have e1 := slice2_axis1_apply 128 h slices_S256x256_o0_128_S256x128 r l ⟨128 + l.val, by omega⟩ rfl
  rw [← e0, ← e1]
  show max (max _ (Spec.mag _)) (Spec.mag _) ≤ b ↔ _
  rw [max_le_iff, max_le_iff, and_assoc]

/-- The running value after `n` tiles. -/
def run (t : ℕ → FVec Ideal S256x256 .f32) : ℕ → FVec Ideal S256x128 .f32
  | 0 => start
  | n + 1 => step (run t n) (t n)

theorem run_le (t : ℕ → FVec Ideal S256x256 .f32) (n : ℕ) (r : Fin 256) (l : Fin 128) (b : EReal) :
    run t n (ix2 r l) ≤ b ↔ 0 ≤ b ∧ ∀ j < n, Spec.mag (t j (ix2 r ⟨l.val, by omega⟩)) ≤ b
      ∧ Spec.mag (t j (ix2 r ⟨128 + l.val, by omega⟩)) ≤ b := by
  induction n with
  | zero =>
    show Ideal.ofBits .f32 0x00000000#32 ≤ b ↔ _
    rw [Ideal.ofBits_zero_f32]
    simp
  | succ n ih =>
    show step (run t n) (t n) (ix2 r l) ≤ b ↔ _
    rw [step_le, ih]
    constructor
    · rintro ⟨⟨h0, h1⟩, h2⟩
      refine ⟨h0, fun j hj => ?_⟩
      rcases Nat.lt_succ_iff_lt_or_eq.1 hj with hj | rfl
      · exact h1 j hj
      · exact h2
    · rintro ⟨h0, h1⟩
      exact ⟨⟨h0, fun j hj => h1 j (by omega)⟩, h1 n (by omega)⟩

/-- The greatest entry of the running value after all sixteen tiles is the row's greatest magnitude. -/
theorem rowMax_run (t : ℕ → FVec Ideal S256x256 .f32) (r : Fin 256) :
    rowMax (run t 16) (ix2 r (0 : Fin 1)) = Spec.amax fun f : Fin 4096 => t (f.val / 256) (ix2 r ⟨f.val % 256, by omega⟩) := by
  refine eq_of_forall_ge_iff fun b => ?_
  unfold rowMax
  rw [Rows.cast_col, Spec.amax_le]
  refine (Rows.max_row_le (run t 16) _ _ _ r b).trans ?_
  simp only [run_le]
  constructor
  · intro h f
    have := (h ⟨f.val % 128, by omega⟩).2 (f.val / 256) (by omega)
    by_cases hf : f.val % 256 < 128
    · have e : (⟨f.val % 128, by omega⟩ : Fin 256) = ⟨f.val % 256, by omega⟩ := Fin.ext (by show f.val % 128 = f.val % 256; omega)
      exact e ▸ this.1
    · have e : (⟨128 + f.val % 128, by omega⟩ : Fin 256) = ⟨f.val % 256, by omega⟩ :=
        Fin.ext (by show 128 + f.val % 128 = f.val % 256; omega)
      exact e ▸ this.2
  · intro h l
    have key : ∀ j < 16, ∀ k : Fin 256, Spec.mag (t j (ix2 r k)) ≤ b := fun j hj k => by
      have := h ⟨256 * j + k.val, by omega⟩
      have e1 : (256 * j + k.val) / 256 = j := by omega
      have e2 : (⟨(256 * j + k.val) % 256, by omega⟩ : Fin 256) = k := Fin.ext (by show (256 * j + k.val) % 256 = k.val; omega)
      simp only [e1, e2] at this
      exact this
    exact ⟨(Spec.mag_nonneg _).trans (key 0 (by omega) 0), fun j hj => ⟨key j hj _, key j hj _⟩⟩

/-! ## Exponent word, scale, codes and output of a block -/

/-- Entry `k` of the table: the `k`-th power is at most the reduced magnitude. -/
theorem table_apply (m : FVec Ideal S256x1 .f32) (r : Fin 256) (k : Fin 246) :
    table m (ix2 r k) = 1#1 ↔ Spec.two ((k.val : ℤ) - 126) ≤ m (ix2 r (0 : Fin 1)) * Spec.recip := by
  have e : table m (ix2 r k) = Ideal.cmp .ole (Ideal.ofBits .f32 (IntOp.shli .vector (iota .tc S256x246 32 [1] iota_S256x246_d1_w32 (ix2 r k)
      - 126#32 + 127#32) 23#32))
      (broadcastTo S256x246 (mulf m (broadcast S256x1 (Scalar.ofBits .f32 0x3B124925#32))) broadcasts_S256x1_S256x246 (ix2 r k)) := rfl
  rw [e, iota_single_apply, show ((ix2 r k : S256x246.Idx) 1).val = k.val from rfl, Rows.bcast_col, Spec.power_word k.val k.isLt]
  show BitVec.ofBool (decide (_ ≤ _)) = 1#1 ↔ _
  rw [show ∀ c : Bool, BitVec.ofBool c = 1#1 ↔ c = true by decide, decide_eq_true_iff]
  rfl

/-- The count of a row. -/
theorem count_apply (m : FVec Ideal S256x1 .f32) (r : Fin 256) :
    count m (ix2 r (0 : Fin 1)) = BitVec.ofNat 32 (Spec.cnt (m (ix2 r (0 : Fin 1)) * Spec.recip)) := by
  unfold count
  rw [Rows.cast_col]
  refine (Rows.count_row (table m) natLt_1_32 _ _ r).trans ?_
  unfold Spec.cnt
  exact congrArg (BitVec.ofNat 32) (congrArg Finset.card (Finset.filter_congr fun k _ => table_apply m r k))

/-- The exponent word of a row. -/
theorem word_apply (m : FVec Ideal S256x1 .f32) (r : Fin 256) : word m (ix2 r (0 : Fin 1)) = Spec.expWord (m (ix2 r (0 : Fin 1))) := by
  have e : word m (ix2 r (0 : Fin 1))
      = if Ideal.cmp .oeq (m (ix2 r (0 : Fin 1))) (Ideal.ofBits .f32 0x00000000#32) = 1#1 then 0#32
        else if Ideal.cmp .ogt (m (ix2 r (0 : Fin 1)) * Spec.recip) (Ideal.ofBits .f32 0x00000000#32)
            &&& Ideal.cmp .olt (m (ix2 r (0 : Fin 1)) * Spec.recip) (Ideal.ofBits .f32 0x7F800000#32) = 1#1
          then count m (ix2 r (0 : Fin 1)) - 126#32 else 0#32 := rfl
  rw [e, count_apply, Ideal.ofBits_zero_f32, Rows.ofBits_top]
  simp only [Rows.between]
  unfold Spec.expWord Ideal.cmp
  by_cases h0 : m (ix2 r (0 : Fin 1)) = 0
  · simp [h0]
  · simp [h0]

/-- The stored scale of a row. -/
theorem scale_apply (m : FVec Ideal S256x1 .f32) (r : Fin 256) : scales m (ix2 r (0 : Fin 1)) = Spec.scale (m (ix2 r (0 : Fin 1))) := by
  show Ideal.ofBits .f32 (IntOp.shli .vector (word m (ix2 r (0 : Fin 1)) + 127#32) 23#32) = _
  rw [word_apply, Spec.scale_word]

/-- The stored code of an entry. -/
theorem code_apply (m : FVec Ideal S256x1 .f32) (h : FVec Ideal S256x4096 .f32) (r : Fin 256) (f : Fin 4096) :
    codes m h (ix2 r f) = Spec.code (m (ix2 r (0 : Fin 1))) (h (ix2 r f)) := by
  show min (Ideal.ofBits .f32 0x43E00000#32) (max (Ideal.ofBits .f32 0xC3E00000#32) (h (ix2 r f)
    * broadcastTo S256x4096 (inverse m) broadcasts_S256x1_S256x4096 (ix2 r f))) = _
  rw [Rows.bcast_col]
  have e : inverse m (ix2 r (0 : Fin 1)) = Ideal.div 1 (Spec.scale (m (ix2 r (0 : Fin 1)))) := by
    show Ideal.ofBits .f32 (IntOp.shli .vector (0#32 - word m (ix2 r (0 : Fin 1)) + 127#32) 23#32) = _
    rw [word_apply, Spec.inv_word]
  rw [e]
  rfl

/-- An entry of the block's output: the codes' row against a column of the down-projection, times both scales. -/
theorem out_apply (m : FVec Ideal S256x1 .f32) (c : FVec Ideal S256x4096 .fp8e4m3) (d : FVec Ideal S4096x2048 .fp8e4m3)
    (s : FVec Ideal S1x2048 .f32) (r : Fin 256) (q : Fin 2048) :
    k0_pay1 (scales m) (k0_pay66 c) d s (ix2 r q)
      = Spec.dot (fun f : Fin 4096 => c (ix2 r f)) (fun f => d (ix2 f q)) * Spec.scale (m (ix2 r (0 : Fin 1))) * s (ix2 (0 : Fin 1) q) := by
  have e1 : k0_pay1 (scales m) (k0_pay66 c) d s (ix2 r q)
      = FloatOps.matmul (DotDims.plain 256 4096 2048) none c d (constant S256x2048 .f32 0x00000000#32) (ix2 r q)
        * broadcastTo S256x2048 (scales m) broadcasts_S256x1_S256x2048 (ix2 r q)
        * broadcastTo S256x2048 s broadcasts_S1x2048_S256x2048 (ix2 r q) := by
    unfold k0_pay1 k0_pay66
    simp only [shapeCast_self]
    rfl
  rw [e1, Ideal.matmul_plain_apply, Rows.bcast_col, broadcastTo_1b_ab_apply, scale_apply]
  show (Ideal.ofBits .f32 0x00000000#32 + _) * _ * _ = _
  rw [Ideal.ofBits_zero_f32, zero_add]
  rfl

end Cert.Tile

end
-- ==== Proof.Block.lean ====
/- What one grid point of the kernel leaves in its three output blocks, entry by entry, as the plain mathematics of
   `Cert.Spec` over the point's input blocks. -/
module

public import proofs.«01_k».proof.Proof.Tile
public import Idealize.ShloMosaic.Lib.Pipeline.Value

@[expose] public section

set_option maxRecDepth 16384

noncomputable section

namespace Cert.Block

open Cert.KernelIdeal Cert.KernelIdeal.Gen Idealize.ShloMosaic Idealize.ShloMosaic.TcCoe Idealize.ShloMosaic.ValueIdx Idealize.SL.Sem
open Cert.Tile

theorem hz : (![0, 0] : Fin 2 → Nat) = fun _ => 0 := funext fun a => by fin_cases a <;> rfl

/-- The block of activations in the format the products read. -/
def acts (x0 : Vec Ideal S256x2048 .f32) : Vec Ideal S256x2048 .bf16 := fun i => x0 i

/-- The 512 columns of the tiled up-projection from column `o` on. -/
def slab (x1 : Vec Ideal S2048x8192 .bf16) (o : ℕ) : Vec Ideal S2048x512 .bf16 :=
  fun i => x1 (ix2 (n0 := 2048) (n1 := 8192) (i 0) ⟨(o + (i 1).val) % 8192, Nat.mod_lt _ (by decide)⟩)

/-- The hidden tile `n` of a block. -/
def tiles (x0 : Vec Ideal S256x2048 .f32) (x1 : Vec Ideal S2048x8192 .bf16) (n : ℕ) : FVec Ideal S256x256 .f32 :=
  tile (acts x0) (slab x1 (512 * n))

/-- Entry `(r, f)` of a block's hidden activations, over the tiled up-projection's columns. -/
def hid (x0 : Vec Ideal S256x2048 .f32) (x1 : Vec Ideal S2048x8192 .bf16) (r : Fin 256) (f : Fin 4096) : EReal :=
  Spec.act (Spec.dot (fun p : Fin 2048 => x0 (ix2 r p)) (fun p => x1 (ix2 p ⟨512 * (f.val / 256) + f.val % 256, by omega⟩)))
    (Spec.dot (fun p : Fin 2048 => x0 (ix2 r p)) (fun p => x1 (ix2 p ⟨512 * (f.val / 256) + 256 + f.val % 256, by omega⟩)))

theorem tiles_apply (x0 : Vec Ideal S256x2048 .f32) (x1 : Vec Ideal S2048x8192 .bf16) (r : Fin 256) (f : Fin 4096) :
    tiles x0 x1 (f.val / 256) (ix2 r ⟨f.val % 256, by omega⟩) = hid x0 x1 r f := by
  unfold tiles hid
  rw [tile_apply]
  have e : ∀ (o : ℕ) (q : Fin 512) (k : Fin 8192), k.val = o + q.val → ∀ p : Fin 2048, slab x1 o (ix2 p q) = x1 (ix2 p k) := by
    intro o q k hk p
    refine congrArg (fun j : Fin 8192 => x1 (ix2 p j)) (Fin.ext ?_)
    show (o + q.val) % 8192 = k.val
    rw [← hk, Nat.mod_eq_of_lt k.isLt]
  congr 1
  · exact congrArg (Spec.dot _) (funext fun p => e _ _ _ rfl p)
  · exact congrArg (Spec.dot _) (funext fun p => e _ _ _ (by show 512 * (f.val / 256) + 256 + f.val % 256 = 512 * (f.val / 256) + (256 + f.val % 256); omega) p)

variable (c : Dev nD) (i : grid0.Coords)
  (arg1 : Memref sig .tc .vmem S256x2048 .f32) (harg1 : arg1.IsWhole) (arg2 : Memref sig .tc .vmem S2048x8192 .bf16) (harg2 : arg2.IsWhole)
  (arg3 : Memref sig .tc .vmem S4096x2048 .fp8e4m3) (harg3 : arg3.IsWhole) (arg4 : Memref sig .tc .vmem S1x2048 .f32) (harg4 : arg4.IsWhole)
  (arg5 : Memref sig .tc .vmem S256x2048 .f32) (harg5 : arg5.IsWhole) (arg6 : Memref sig .tc .vmem S256x4096 .fp8e4m3) (harg6 : arg6.IsWhole)
  (arg7 : Memref sig .tc .vmem S256x1 .f32) (harg7 : arg7.IsWhole) (arg8 : Memref sig .tc .vmem S256x2048 .bf16) (harg8 : arg8.IsWhole)
  (arg9 : Memref sig .tc .vmem S256x4096 .f32) (harg9 : arg9.IsWhole)
  (x0 : Vec Ideal S256x2048 .f32) (x1 : Vec Ideal S2048x8192 .bf16) (x2 : Vec Ideal S4096x2048 .fp8e4m3) (x3 : Vec Ideal S1x2048 .f32)

/-! ## Reads of the inputs and of the stored activations -/

/-- A slab read from the tiled up-projection. -/
theorem slab_eq (o : ℕ) (inb : ∀ a, (![0, o] : Fin 2 → Nat) a + S2048x512.size a ≤ S2048x8192.size a) :
    View.readAt (Elt Ideal) arg2.view (Rect.unit (s := S2048x8192) ![0, o] S2048x512.size inb).toLoadRect (harg2.unread x1) = slab x1 o := by
  rw [View.readAt_eq_ld, harg2.read_unread, View.ld_unit]
  funext j
  have ho : o + 512 ≤ 8192 := inb 1
  refine extractStridedSlice_apply _ _ _ _ _ fun a => ?_
  match a with
  | ⟨0, _⟩ => exact (Nat.zero_add _).symm
  | ⟨1, _⟩ => exact Nat.mod_eq_of_lt (by have : (j 1).val < 512 := (j 1).isLt; show o + (j 1).val < 8192; omega)

/-- The same, with the slab's extents spelled out. -/
theorem slab_eq' (o : ℕ) (inb : ∀ a, (![0, o] : Fin 2 → Nat) a + (![2048, 512] : Fin 2 → Nat) a ≤ S2048x8192.size a) :
    View.readAt (Elt Ideal) arg2.view (Rect.unit (s := S2048x8192) ![0, o] ![2048, 512] inb).toLoadRect (harg2.unread x1) = slab x1 o :=
  slab_eq arg2 harg2 x1 o inb

/-- The stored activations read back. -/
theorem v7_eq : kernelRun0_A.sl.v7 c arg1 harg1 arg8 x0 = acts x0 := by
  unfold kernelRun0_A.sl.v7 kernelRun0_A.sl.HS0_1
  rw [View.readCov_unit_zero (S := S256x2048) arg8.view hz, View.readAt_eq_ld, harg1.read_unread, View.ld_unit_zero (S := S256x2048) hz]
  unfold k0_pay2
  simp only [shapeCast_self]
  rfl

theorem cst_eq : (kernelRun0_A.sl.cst_60 : Ideal .f32) = FloatOps.ofBits .f32 0x3F800000#32 := rfl

/-- The running maximum before the last tile is the run over the first fifteen. -/
theorem r22_eq : kernelRun0_A.sl.r_22 c arg1 harg1 arg2 harg2 arg8 x0 x1 = run (tiles x0 x1) 15 := by
  simp only [kernelRun0_A.sl.r_22, kernelRun0_A.sl.r_21, kernelRun0_A.sl.r_20, kernelRun0_A.sl.r_19, kernelRun0_A.sl.r_18,
    kernelRun0_A.sl.r_17, kernelRun0_A.sl.r_16, kernelRun0_A.sl.r_15, kernelRun0_A.sl.r_14, kernelRun0_A.sl.r_13,
    kernelRun0_A.sl.r_12, kernelRun0_A.sl.r_11, kernelRun0_A.sl.r_10, kernelRun0_A.sl.r_9, kernelRun0_A.sl.r_8,
    kernelRun0_A.sl.r_7, kernelRun0_A.sl.r_6, kernelRun0_A.sl.r_5, kernelRun0_A.sl.r_4, kernelRun0_A.sl.r_3,
    kernelRun0_A.sl.r_2, kernelRun0_A.sl.r_1, kernelRun0_A.sl.r, cst_eq, v7_eq, slab_eq',
    pay5_eq, pay13_eq, pay16_eq, pay21_eq, pay30_eq, pay33_eq, pay39_eq, pay48_eq, pay56_eq]
  simp only [run, tiles, Nat.reduceMul]

/-- Each row's greatest magnitude. -/
theorem r23_eq : kernelRun0_A.sl.r_23 c arg1 harg1 arg2 harg2 arg8 x0 x1 = rowMax (run (tiles x0 x1) 16) := by
  rw [kernelRun0_A.sl.r_23, r22_eq, v7_eq, slab_eq, pay59_eq]
  rfl

theorem r24_eq : kernelRun0_A.sl.r_24 c arg1 harg1 arg2 harg2 arg8 x0 x1 = ratio (rowMax (run (tiles x0 x1) 16)) := by
  rw [kernelRun0_A.sl.r_24, r22_eq, v7_eq, slab_eq]
  exact pay60_eq _ _ _ _ rfl

theorem r25_eq : kernelRun0_A.sl.r_25 c arg1 harg1 arg2 harg2 arg8 x0 x1 = count (rowMax (run (tiles x0 x1) 16)) := by
  rw [kernelRun0_A.sl.r_25, r22_eq, v7_eq, slab_eq]
  exact pay61_eq _ _ _ _ rfl

theorem r26_eq : kernelRun0_A.sl.r_26 c arg1 harg1 arg2 harg2 arg8 x0 x1 = pos (rowMax (run (tiles x0 x1) 16)) := by
  rw [kernelRun0_A.sl.r_26, r22_eq, v7_eq, slab_eq]
  exact pay62_eq _ _ _ _ rfl

/-- Each row's scale. -/
theorem r27_eq : kernelRun0_A.sl.r_27 c arg1 harg1 arg2 harg2 arg8 x0 x1 = scales (rowMax (run (tiles x0 x1) 16)) := by
  rw [kernelRun0_A.sl.r_27, r23_eq, r24_eq, r25_eq, r26_eq]
  rfl

/-! ## The stored hidden activations -/

/-- The hidden block as the tiles store it. -/
def hidden : Vec Ideal S256x4096 .f32 := fun y => hid x0 x1 (y 0) (y 1)

/-- A tile stored at its columns agrees with the hidden block there. -/
theorem piece (o o' : ℕ) (ho : o' = 2 * o) (hd : o % 256 = 0)
    (inb : ∀ a, (![0, o] : Fin 2 → Nat) a + S256x256.size a ≤ S256x4096.size a) (x : S256x256.Idx) :
    tile (acts x0) (slab x1 o') x = hidden x0 x1 ((Rect.unit (s := S256x4096) ![0, o] S256x256.size inb).emb x) := by
  have hb : o + 256 ≤ 4096 := inb 1
  have hx : (x 1).val < 256 := (x 1).isLt
  have e : (Rect.unit (s := S256x4096) ![0, o] S256x256.size inb).emb x
      = ix2 (n0 := 256) (n1 := 4096) (x 0) ⟨o + (x 1).val, by omega⟩ := by
    funext a
    apply Fin.ext
    match a with
    | ⟨0, _⟩ => show 0 + 1 * (x 0).val = (x 0).val; omega
    | ⟨1, _⟩ => show o + 1 * (x 1).val = o + (x 1).val; omega
  rw [e]
  refine Eq.trans ?_ (tiles_apply x0 x1 (x 0) ⟨o + (x 1).val, by omega⟩)
  unfold tiles
  have e1 : 512 * ((o + (x 1).val) / 256) = o' := by omega
  have e2 : (ix2 (n0 := 256) (n1 := 256) (x 0) ⟨(o + (x 1).val) % 256, by omega⟩ : S256x256.Idx) = x := by
    funext a
    match a with
    | ⟨0, _⟩ => rfl
    | ⟨1, _⟩ => exact Fin.ext (by show (o + (x 1).val) % 256 = (x 1).val; omega)
  show _ = tile (acts x0) (slab x1 (512 * ((o + (x 1).val) / 256))) (ix2 (n0 := 256) (n1 := 256) (x 0) ⟨(o + (x 1).val) % 256, by omega⟩)
  rw [e1, e2]

/-- The sixteen stored tiles together are the hidden block. -/
theorem canon_eq : View.canon (kernelRun0_A.sl.HS1_16 c arg1 harg1 arg2 harg2 arg8 x0 x1) = hidden x0 x1 := by
  funext y
  refine View.canon_apply_of_pieces (hidden x0 x1) _ ?_ y
    (View.cover_of_tiledL (kernelRun0_A.sl.HS1_16 c arg1 harg1 arg2 harg2 arg8 x0 x1) S256x256.size (by sl_kernel_rfl) y)
  simp only [kernelRun0_A.sl.HS1_16, List.forall_mem_cons, kernelRun0_A.sl.r_21, kernelRun0_A.sl.r_20, kernelRun0_A.sl.r_18,
    kernelRun0_A.sl.r_17, kernelRun0_A.sl.r_16, kernelRun0_A.sl.r_11, kernelRun0_A.sl.r_9, kernelRun0_A.sl.r_8,
    kernelRun0_A.sl.r_7, kernelRun0_A.sl.r_5, kernelRun0_A.sl.r_2, kernelRun0_A.sl.r_1, cst_eq, v7_eq, slab_eq',
    pay4_eq, pay10_eq, pay12_eq, pay15_eq, pay18_eq, pay20_eq, pay27_eq, pay29_eq, pay32_eq, pay35_eq, pay38_eq, pay45_eq, pay47_eq,
    pay53_eq, pay55_eq, pay58_eq]
  repeat' apply And.intro
  all_goals first
    | exact List.forall_mem_nil _
    | (intro x
       refine piece x0 x1 _ _ ?_ ?_ _ x <;> norm_num)

/-- The hidden block read back. -/
theorem v434_eq : kernelRun0_A.sl.v434 c arg1 harg1 arg2 harg2 arg8 arg9 x0 x1 = hidden x0 x1 := by
  unfold kernelRun0_A.sl.v434
  rw [View.readCov_eq_canon', canon_eq]
  exact View.ld_unit_zero (S := S256x4096) hz _ (hidden x0 x1)

/-! ## The three output blocks -/

/-- Each row's greatest magnitude, as the kernel has it. -/
def maxes : FVec Ideal S256x1 .f32 := rowMax (run (tiles x0 x1) 16)

theorem maxes_apply (r : Fin 256) : maxes x0 x1 (ix2 r (0 : Fin 1)) = Spec.amax (hid x0 x1 r) := by
  unfold maxes
  rw [rowMax_run]
  exact congrArg Spec.amax (funext fun f => tiles_apply x0 x1 r f)

theorem out6_eq : out0_A_6 c i arg1 harg1 arg2 harg2 arg3 harg3 arg4 harg4 arg5 harg5 arg6 harg6 arg7 harg7 arg8 harg8 arg9 harg9 x0 x1 x2 x3
    = scales (maxes x0 x1) := by
  unfold out0_A_6
  rw [View.read_writes_junk_eq_canon]
  refine (View.canon_unit_zero (Val := Elt Ideal) (e := .f32) (S := S256x1) hz inb_S256x1_S256x1_0_0
    (kernelRun0_A.sl.r_27 c arg1 harg1 arg2 harg2 arg8 x0 x1)).trans ?_
  rw [r27_eq]
  rfl

/-- What the codes' block holds when it is read back. -/
theorem H5_eq : View.canon (kernelRun0_A.sl.H5_1 c arg1 harg1 arg2 harg2 arg8 arg9 x0 x1) = codes (maxes x0 x1) (hidden x0 x1) := by
  unfold kernelRun0_A.sl.H5_1
  refine (View.canon_unit_zero (Val := Elt Ideal) (e := .fp8e4m3) (S := S256x4096) hz _ _).trans ?_
  rw [r23_eq, r24_eq, r25_eq, r26_eq, v434_eq]
  rfl

theorem out5_eq : out0_A_5 c i arg1 harg1 arg2 harg2 arg3 harg3 arg4 harg4 arg5 harg5 arg6 harg6 arg7 harg7 arg8 harg8 arg9 harg9 x0 x1 x2 x3
    = codes (maxes x0 x1) (hidden x0 x1) := by
  unfold out0_A_5
  rw [View.read_writes_junk_eq_canon]
  exact H5_eq c arg1 harg1 arg2 harg2 arg8 arg9 x0 x1

theorem out4_eq : out0_A_4 c i arg1 harg1 arg2 harg2 arg3 harg3 arg4 harg4 arg5 harg5 arg6 harg6 arg7 harg7 arg8 harg8 arg9 harg9 x0 x1 x2 x3
    = k0_pay1 (scales (maxes x0 x1)) (k0_pay66 (codes (maxes x0 x1) (hidden x0 x1))) x2 x3 := by
  unfold out0_A_4
  rw [View.read_writes_junk_eq_canon]
  refine (View.canon_unit_zero (Val := Elt Ideal) (e := .f32) (S := S256x2048) hz inb_S256x2048_S256x2048_0_0 _).trans ?_
  have e : kernelRun0_A.sl.v443 c arg1 harg1 arg2 harg2 arg6 arg8 arg9 x0 x1 = codes (maxes x0 x1) (hidden x0 x1) := by
    unfold kernelRun0_A.sl.v443
    rw [View.readCov_eq_canon', H5_eq]
    exact View.ld_unit_zero (Val := Elt Ideal) (e := .fp8e4m3) (S := S256x4096) hz inb_S256x4096_S256x4096_0_0
      (codes (maxes x0 x1) (hidden x0 x1))
  rw [kernelRun0_A.sl.r_28, kernelRun0_A.sl.r_29, r27_eq, e, View.readAt_eq_ld, harg3.read_unread, View.ld_unit_zero (S := S4096x2048) hz,
    View.readAt_eq_ld, harg4.read_unread, View.ld_unit_zero (S := S1x2048) hz]
  rfl

/-- A row's scale. -/
theorem out6_apply (r : Fin 256) :
    out0_A_6 c i arg1 harg1 arg2 harg2 arg3 harg3 arg4 harg4 arg5 harg5 arg6 harg6 arg7 harg7 arg8 harg8 arg9 harg9 x0 x1 x2 x3 (ix2 r (0 : Fin 1))
      = Spec.scale (Spec.amax (hid x0 x1 r)) := by
  rw [out6_eq, scale_apply, maxes_apply]

/-- A row's codes. -/
theorem out5_apply (r : Fin 256) (f : Fin 4096) :
    out0_A_5 c i arg1 harg1 arg2 harg2 arg3 harg3 arg4 harg4 arg5 harg5 arg6 harg6 arg7 harg7 arg8 harg8 arg9 harg9 x0 x1 x2 x3 (ix2 r f)
      = Spec.code (Spec.amax (hid x0 x1 r)) (hid x0 x1 r f) := by
  rw [out5_eq, code_apply, maxes_apply]
  rfl

/-- A row's output: its codes against a column of the down-projection, times the row's and the column's scales. -/
theorem out4_apply (r : Fin 256) (q : Fin 2048) :
    out0_A_4 c i arg1 harg1 arg2 harg2 arg3 harg3 arg4 harg4 arg5 harg5 arg6 harg6 arg7 harg7 arg8 harg8 arg9 harg9 x0 x1 x2 x3 (ix2 r q)
      = Spec.out (hid x0 x1 r) (fun f => x2 (ix2 f q)) (x3 (ix2 (0 : Fin 1) q)) := by
  rw [out4_eq]
  refine (out_apply _ _ _ _ r q).trans ?_
  rw [maxes_apply]
  have e : (fun f : Fin 4096 => codes (maxes x0 x1) (hidden x0 x1) (ix2 r f))
      = fun f => Spec.code (Spec.amax (hid x0 x1 r)) (hid x0 x1 r f) := by
    funext f
    rw [code_apply, maxes_apply]
    rfl
  rw [e]
  rfl

end Cert.Block

end
-- ==== Proof.Layer.lean ====
/- The whole layer as three functions of whole arrays: the results both programs are shown to leave. -/
module

public import proofs.«01_k».proof.Proof.Rows

@[expose] public section

noncomputable section

namespace Cert.Layer

open Idealize.ShloMosaic Idealize.ShloMosaic.ValueIdx

/-- A row of activations through the gated up-projection: gate columns first, up columns from 4096 on. -/
def hidden (x : Fin 2048 → EReal) (W : (⟨2, ![2048, 8192]⟩ : Shape).Idx → EReal) (f : Fin 4096) : EReal :=
  Spec.act (Spec.dot x fun p => W (ix2 p ⟨f.val, by omega⟩)) (Spec.dot x fun p => W (ix2 p ⟨4096 + f.val, by omega⟩))

variable (X : (⟨2, ![16384, 2048]⟩ : Shape).Idx → EReal) (W : (⟨2, ![2048, 8192]⟩ : Shape).Idx → EReal)
  (D : (⟨2, ![4096, 2048]⟩ : Shape).Idx → EReal) (S : (⟨2, ![1, 2048]⟩ : Shape).Idx → EReal)

/-- Hidden row `r`. -/
def row (r : Fin 16384) : Fin 4096 → EReal := hidden (fun p => X (ix2 r p)) W

/-- The layer's output. -/
def y (i : (⟨2, ![16384, 2048]⟩ : Shape).Idx) : EReal :=
  Spec.out (row X W (i 0)) (fun f => D (ix2 (n0 := 4096) (n1 := 2048) f (i 1))) (S (ix2 (n0 := 1) (n1 := 2048) 0 (i 1)))

/-- The quantised hidden activations. -/
def codes (i : (⟨2, ![16384, 4096]⟩ : Shape).Idx) : EReal := Spec.code (Spec.amax (row X W (i 0))) (row X W (i 0) (i 1))

/-- The row scales. -/
def scales (i : (⟨2, ![16384, 1]⟩ : Shape).Idx) : EReal := Spec.scale (Spec.amax (row X W (i 0)))

end Cert.Layer

end
-- ==== Proof.KernelArrays.lean ====
/- The kernel's three result arrays as functions of its arguments: the re-tiled up-projection read in the original
   column order, each grid point's blocks placed at its rows. -/
module

public import proofs.«01_k».proof.Proof.Block
public import proofs.«01_k».proof.Proof.Layer
public import Idealize.ShloMosaic.Lib.Pipeline.ValueKit.Geometry

@[expose] public section

set_option maxRecDepth 16384

noncomputable section

namespace Cert.KernelArrays

open Cert.KernelIdeal Cert.KernelIdeal.Gen Cert.KernelIdeal.Value Idealize.ShloMosaic Idealize.ShloMosaic.TcCoe Idealize.ShloMosaic.ValueIdx
open Idealize.SL.Sem

/-- The up-projection re-tiled: sixteen slabs of 256 gate columns and 256 up columns. -/
def tiled (W : Vec Ideal S2048x8192 .bf16) : Vec Ideal S2048x8192 .bf16 :=
  shapeCast S2048x8192 (transpose S2048x16x2x256 [0, 2, 1, 3] (shapeCast S2048x2x16x256 W shapeCasts_S2048x8192_S2048x2x16x256)
    transposes_S2048x2x16x256_S2048x16x2x256_0_2_1_3) shapeCasts_S2048x16x2x256_S2048x8192

/-- Tiled column `512 j + 256 s + k` is original column `4096 s + 256 j + k`. -/
theorem tiled_apply (W : Vec Ideal S2048x8192 .bf16) (p : Fin 2048) (j : Fin 16) (s : Fin 2) (k : Fin 256) :
    tiled W (ix2 p ⟨512 * j.val + 256 * s.val + k.val, by omega⟩) = W (ix2 p ⟨4096 * s.val + 256 * j.val + k.val, by omega⟩) := by
  unfold tiled
  refine (shapeCast_apply _ _ _ (ix4 p j s k) ?_).trans ?_
  · rw [Shape.rowMajor_val_four, Shape.rowMajor_val_two]
    show ((p.val * 16 + j.val) * 2 + s.val) * 256 + k.val = p.val * 8192 + (512 * j.val + 256 * s.val + k.val)
    omega
  refine (transpose_apply _ _ _ _ (ix4 p s j k) ?_).trans ?_
  · intro a
    match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show p.val * 8192 + (4096 * s.val + 256 * j.val + k.val) = ((p.val * 2 + s.val) * 16 + j.val) * 256 + k.val
  omega

variable (m : (ℓ : Loc nD τ sig) → Buf (Elt Ideal) ℓ) (ρ : Dev nD → PrngReg)

/-- The activations as rows. -/
def X (c : Dev nD) : Vec Ideal S16384x2048 .f32 := shapeCast S16384x2048 (m ((c : Thread nD τ).loc main_arg0)) shapeCasts_S4x4096x2048_S16384x2048
/-- The up-projection. -/
def W (c : Dev nD) : Vec Ideal S2048x8192 .bf16 := fun i => m ((c : Thread nD τ).loc main_arg1) i
/-- The down-projection's codes. -/
def D (c : Dev nD) : Vec Ideal S4096x2048 .fp8e4m3 := m ((c : Thread nD τ).loc main_arg2)
/-- The down-projection's column scales as a row. -/
def S (c : Dev nD) : Vec Ideal S1x2048 .f32 := shapeCast S1x2048 (m ((c : Thread nD τ).loc main_arg3)) shapeCasts_S2048_S1x2048

theorem V_v3 (c : Dev nD) : V m c main_v3 = tiled (W m c) := by
  unfold V
  after_results
  rfl

theorem V_v4 (c : Dev nD) : V m c main_v4 = X m c := by
  unfold V
  after_results
  rfl

theorem V_v5 (c : Dev nD) : V m c main_v5 = S m c := by
  unfold V
  after_results
  rfl

/-! ## The blocks' places -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem lt64 : ∀ t : Fin cfg0.N, t.val < 64 := (by decide +kernel : ∀ t : Fin grid0.N, t.val < 64)

/-- Row `r` of point `t`'s blocks is row `256 t + r` of the arrays. -/
def rowAt (t : Fin cfg0.N) (r : Fin 256) : Fin 16384 := ⟨256 * t.val + r.val, by have := lt64 t; omega⟩

theorem iblk0_apply (c : Dev nD) (t : Fin cfg0.N) (r : Fin 256) (p : Fin 2048) : iblk m c 0 t (ix2 (n0 := 256) (n1 := 2048) r p) = X m c (ix2 (rowAt t r) p) := by
  obtain ⟨e0, e1⟩ := idx0 t
  show V m c main_v4 (((cfg0.win 0).blk t).view.emb (ix2 (n0 := 256) (n1 := 2048) r p)) = _
  rw [V_v4]
  refine congrArg (X m c) (funext fun a => Fin.ext ?_)
  match a with
  | ⟨0, _⟩ => show win0_0.index t (0 : Fin 2) * 256 + 1 * r.val = 256 * t.val + r.val; omega
  | ⟨1, _⟩ => show win0_0.index t (1 : Fin 2) * 2048 + 1 * p.val = p.val; omega

theorem iblk1_eq (c : Dev nD) (t : Fin cfg0.N) : iblk m c 1 t = tiled (W m c) := by
  obtain ⟨e0, e1⟩ := idx1 t
  funext j
  show V m c main_v3 (((cfg0.win 1).blk t).view.emb j) = _
  rw [V_v3]
  refine congrArg (tiled (W m c)) (funext fun a => Fin.ext ?_)
  match a with
  | ⟨0, _⟩ => show win0_1.index t (0 : Fin 2) * 2048 + 1 * (j 0).val = (j 0).val; omega
  | ⟨1, _⟩ => show win0_1.index t (1 : Fin 2) * 8192 + 1 * (j 1).val = (j 1).val; omega

theorem iblk2_eq (c : Dev nD) (t : Fin cfg0.N) : iblk m c 2 t = D m c := by
  obtain ⟨e0, e1⟩ := idx2 t
  funext j
  show V m c main_arg2 (((cfg0.win 2).blk t).view.emb j) = _
  rw [V_main_arg2]
  refine congrArg (D m c) (funext fun a => Fin.ext ?_)
  match a with
  | ⟨0, _⟩ => show win0_2.index t (0 : Fin 2) * 4096 + 1 * (j 0).val = (j 0).val; omega
  | ⟨1, _⟩ => show win0_2.index t (1 : Fin 2) * 2048 + 1 * (j 1).val = (j 1).val; omega

theorem iblk3_eq (c : Dev nD) (t : Fin cfg0.N) : iblk m c 3 t = S m c := by
  obtain ⟨e0, e1⟩ := idx3 t
  funext j
  show V m c main_v5 (((cfg0.win 3).blk t).view.emb j) = _
  rw [V_v5]
  refine congrArg (S m c) (funext fun a => Fin.ext ?_)
  match a with
  | ⟨0, _⟩ => show win0_3.index t (0 : Fin 2) * 1 + 1 * (j 0).val = (j 0).val; omega
  | ⟨1, _⟩ => show win0_3.index t (1 : Fin 2) * 2048 + 1 * (j 1).val = (j 1).val; omega

/-- A block's hidden row is the layer's. -/
theorem hid_eq (c : Dev nD) (t : Fin cfg0.N) (r : Fin 256) :
    Block.hid (iblk m c 0 t) (iblk m c 1 t) r = Layer.row (X m c) (W m c) (rowAt t r) := by
  funext f
  rw [iblk1_eq]
  unfold Block.hid Layer.row Layer.hidden
  have hx : (fun p : Fin 2048 => iblk m c 0 t (ix2 (n0 := 256) (n1 := 2048) r p)) = fun p => X m c (ix2 (rowAt t r) p) :=
    funext fun p => iblk0_apply m c t r p
  have hg : ∀ p : Fin 2048, tiled (W m c) (ix2 p ⟨512 * (f.val / 256) + f.val % 256, by omega⟩) = W m c (ix2 p ⟨f.val, by omega⟩) := fun p => by
    have := tiled_apply (W m c) p ⟨f.val / 256, by omega⟩ 0 ⟨f.val % 256, by omega⟩
    refine Eq.trans (congrArg (fun q : Fin 8192 => tiled (W m c) (ix2 p q)) (Fin.ext ?_)) (this.trans
      (congrArg (fun q : Fin 8192 => W m c (ix2 p q)) (Fin.ext ?_)))
    · show 512 * (f.val / 256) + f.val % 256 = 512 * (f.val / 256) + 256 * 0 + f.val % 256; omega
    · show 4096 * 0 + 256 * (f.val / 256) + f.val % 256 = f.val; omega
  have hu : ∀ p : Fin 2048, tiled (W m c) (ix2 p ⟨512 * (f.val / 256) + 256 + f.val % 256, by omega⟩) = W m c (ix2 p ⟨4096 + f.val, by omega⟩) := fun p => by
    have := tiled_apply (W m c) p ⟨f.val / 256, by omega⟩ 1 ⟨f.val % 256, by omega⟩
    refine Eq.trans (congrArg (fun q : Fin 8192 => tiled (W m c) (ix2 p q)) (Fin.ext ?_)) (this.trans
      (congrArg (fun q : Fin 8192 => W m c (ix2 p q)) (Fin.ext ?_)))
    · show 512 * (f.val / 256) + 256 + f.val % 256 = 512 * (f.val / 256) + 256 * 1 + f.val % 256; omega
    · show 4096 * 1 + 256 * (f.val / 256) + f.val % 256 = 4096 + f.val; omega
  exact congrArg₂ Spec.act (congrArg₂ Spec.dot hx (funext hg)) (congrArg₂ Spec.dot hx (funext hu))

/-! ## The three arrays after the run -/

/-- The first result is the layer's output. -/
theorem final4 (c : Dev nD) : (dats m 0 c).arrAt 4 cfg0.N = Layer.y (X m c) (W m c) (D m c) (S m c) := by
  refine (dats m 0 c).arrAt_eq_of_cover 4 (Layer.y (X m c) (W m c) (D m c) (S m c)) (fun t _ => ?_)
    (Pipeline.Window.Covers.cover (cfg0.win 4) (by decide +kernel) (Memref.isWhole_whole _))
  obtain ⟨e0, e1⟩ := idx4 t
  rw [flushed4_A]
  have key : ∀ (r : Fin 256) (q : Fin 2048), out0_A_4 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) (iblk m c 0 t) (iblk m c 1 t) (iblk m c 2 t) (iblk m c 3 t) (ix2 r q)
      = Layer.y (X m c) (W m c) (D m c) (S m c) (ix2 (rowAt t r) q) := fun r q => by
    rw [Block.out4_apply, hid_eq, iblk2_eq, iblk3_eq]
    rfl
  generalize out0_A_4 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) (iblk m c 0 t) (iblk m c 1 t) (iblk m c 2 t) (iblk m c 3 t) = B at key ⊢
  funext j
  have h0 : (j 0).val < 256 := (j 0).isLt
  have h1 : (j 1).val < 2048 := (j 1).isLt
  show B j = Layer.y (X m c) (W m c) (D m c) (S m c) (((cfg0.win 4).blk t).view.emb j)
  refine (congrArg B ?_ : B j = B (ix2 (⟨(j 0).val, h0⟩ : Fin 256) (⟨(j 1).val, h1⟩ : Fin 2048))).trans
    ((key ⟨(j 0).val, h0⟩ ⟨(j 1).val, h1⟩).trans (congrArg (Layer.y (X m c) (W m c) (D m c) (S m c)) ?_))
  · funext a
    apply Fin.ext
    match a with
    | ⟨0, _⟩ => rfl
    | ⟨1, _⟩ => rfl
  · funext a
    apply Fin.ext
    match a with
    | ⟨0, _⟩ => show 256 * t.val + (j 0).val = win0_4.index t (0 : Fin 2) * 256 + 1 * (j 0).val; omega
    | ⟨1, _⟩ => show (j 1).val = win0_4.index t (1 : Fin 2) * 2048 + 1 * (j 1).val; omega

/-- The second result is the quantised hidden activations. -/
theorem final5 (c : Dev nD) : (dats m 0 c).arrAt 5 cfg0.N = Layer.codes (X m c) (W m c) := by
  refine (dats m 0 c).arrAt_eq_of_cover 5 (Layer.codes (X m c) (W m c)) (fun t _ => ?_)
    (Pipeline.Window.Covers.cover (cfg0.win 5) (by decide +kernel) (Memref.isWhole_whole _))
  obtain ⟨e0, e1⟩ := idx5 t
  rw [flushed5_A]
  have key : ∀ (r : Fin 256) (q : Fin 4096), out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) (iblk m c 0 t) (iblk m c 1 t) (iblk m c 2 t) (iblk m c 3 t) (ix2 r q)
      = Layer.codes (X m c) (W m c) (ix2 (rowAt t r) q) := fun r q => by
    rw [Block.out5_apply, hid_eq]
    rfl
  generalize out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) (iblk m c 0 t) (iblk m c 1 t) (iblk m c 2 t) (iblk m c 3 t) = B at key ⊢
  funext j
  have h0 : (j 0).val < 256 := (j 0).isLt
  have h1 : (j 1).val < 4096 := (j 1).isLt
  show B j = Layer.codes (X m c) (W m c) (((cfg0.win 5).blk t).view.emb j)
  refine (congrArg B ?_ : B j = B (ix2 (⟨(j 0).val, h0⟩ : Fin 256) (⟨(j 1).val, h1⟩ : Fin 4096))).trans
    ((key ⟨(j 0).val, h0⟩ ⟨(j 1).val, h1⟩).trans (congrArg (Layer.codes (X m c) (W m c)) ?_))
  · funext a
    apply Fin.ext
    match a with
    | ⟨0, _⟩ => rfl
    | ⟨1, _⟩ => rfl
  · funext a
    apply Fin.ext
    match a with
    | ⟨0, _⟩ => show 256 * t.val + (j 0).val = win0_5.index t (0 : Fin 2) * 256 + 1 * (j 0).val; omega
    | ⟨1, _⟩ => show (j 1).val = win0_5.index t (1 : Fin 2) * 4096 + 1 * (j 1).val; omega

/-- The third result is the row scales. -/
theorem final6 (c : Dev nD) : (dats m 0 c).arrAt 6 cfg0.N = Layer.scales (X m c) (W m c) := by
  refine (dats m 0 c).arrAt_eq_of_cover 6 (Layer.scales (X m c) (W m c)) (fun t _ => ?_)
    (Pipeline.Window.Covers.cover (cfg0.win 6) (by decide +kernel) (Memref.isWhole_whole _))
  obtain ⟨e0, e1⟩ := idx6 t
  rw [flushed6_A]
  have key : ∀ (r : Fin 256) (q : Fin 1), out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) (iblk m c 0 t) (iblk m c 1 t) (iblk m c 2 t) (iblk m c 3 t) (ix2 r q)
      = Layer.scales (X m c) (W m c) (ix2 (rowAt t r) q) := fun r q => by
    obtain rfl : q = 0 := Subsingleton.elim _ _
    rw [Block.out6_apply, hid_eq]
    rfl
  generalize out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) (iblk m c 0 t) (iblk m c 1 t) (iblk m c 2 t) (iblk m c 3 t) = B at key ⊢
  funext j
  have h0 : (j 0).val < 256 := (j 0).isLt
  have h1 : (j 1).val < 1 := (j 1).isLt
  show B j = Layer.scales (X m c) (W m c) (((cfg0.win 6).blk t).view.emb j)
  refine (congrArg B ?_ : B j = B (ix2 (⟨(j 0).val, h0⟩ : Fin 256) (⟨(j 1).val, h1⟩ : Fin 1))).trans
    ((key ⟨(j 0).val, h0⟩ ⟨(j 1).val, h1⟩).trans (congrArg (Layer.scales (X m c) (W m c)) ?_))
  · funext a
    apply Fin.ext
    match a with
    | ⟨0, _⟩ => rfl
    | ⟨1, _⟩ => rfl
  · funext a
    apply Fin.ext
    match a with
    | ⟨0, _⟩ => show 256 * t.val + (j 0).val = win0_6.index t (0 : Fin 2) * 256 + 1 * (j 0).val; omega
    | ⟨1, _⟩ => show (j 1).val = win0_6.index t (1 : Fin 2) * 1 + 1 * (j 1).val; omega

end Cert.KernelArrays

end
-- ==== Proof.RefArrays.lean ====
/- The reference's three result arrays as functions of its arguments. -/
module

public import proofs.«01_k».proof.Proof.Gen.ReferenceIdeal.Value
public import proofs.«01_k».proof.Proof.Layer
public import Idealize.ShloMosaic.Lib.Pipeline.ValueKit.Geometry
public import Idealize.ShloMosaic.Lib.ValueLayout

@[expose] public section

set_option maxRecDepth 16384

noncomputable section

namespace Cert.RefArrays

open Cert.ReferenceIdeal Cert.ReferenceIdeal.Gen Cert.ReferenceIdeal.Value Idealize.ShloMosaic Idealize.ShloMosaic.TcCoe Idealize.ShloMosaic.ValueIdx
open Idealize.SL.Sem
open scoped BigOperators

section Values

variable (v0 : FVec Ideal S16384x2048 .f32) (v3 : FVec Ideal S2048x8192 .bf16)

/-- The up-projection's product. -/
def prod : FVec Ideal S16384x8192 .f32 :=
  matmul (φ₁ := .bf16) (φ₂ := .bf16) dot_S16384x2048_S2048x8192_S16384x8192_1_0_0_1_n_n none v0 v3 (constant S16384x8192 .f32 0x00000000#32)

theorem prod_apply (r : Fin 16384) (q : Fin 8192) :
    prod v0 v3 (ix2 r q) = Spec.dot (fun p : Fin 2048 => v0 (ix2 r p)) (fun p => v3 (ix2 p q)) := by
  unfold prod
  refine (Ideal.matmul_plain_apply (φ₁ := .bf16) (φ₂ := .bf16) (M := 16384) (K := 2048) (N := 8192) none v0 v3 (constant S16384x8192 .f32 0x00000000#32) r q).trans ?_
  show Ideal.ofBits .f32 0x00000000#32 + _ = _
  rw [Ideal.ofBits_zero_f32, zero_add]
  rfl

/-- The gate columns. -/
def gate : FVec Ideal S16384x4096 .f32 := extractStridedSlice S16384x4096 ![0, 0] (prod v0 v3) slices_S16384x8192_o0_0_S16384x4096
/-- The up columns. -/
def up : FVec Ideal S16384x4096 .f32 := extractStridedSlice S16384x4096 ![0, 4096] (prod v0 v3) slices_S16384x8192_o0_4096_S16384x4096

/-- The hidden array is the activation of the gate and up columns. -/
theorem hidden_act : k0_pay3 (F := Ideal) v0 v3 = fun i => Spec.act (gate v0 v3 i) (up v0 v3 i) := by
  unfold k0_pay3
  simp only [shapeCast_self]
  funext i
  show gate v0 v3 i * Ideal.logistic (gate v0 v3 i) * up v0 v3 i = _
  unfold Ideal.logistic Spec.act
  rw [zero_sub]

/-- Entry `(r, f)` of the hidden array. -/
theorem hidden_apply (r : Fin 16384) (f : Fin 4096) : k0_pay3 (F := Ideal) v0 v3 (ix2 r f) = Layer.row v0 v3 r f := by
  rw [hidden_act]
  show Spec.act (gate v0 v3 (ix2 r f)) (up v0 v3 (ix2 r f)) = _
  unfold gate up
  rw [slice2_axis1_apply 0 _ _ r f ⟨f.val, by omega⟩ (by simp), slice2_axis1_apply 4096 _ _ r f ⟨4096 + f.val, by omega⟩ rfl,
    prod_apply, prod_apply]
  rfl

/-- Each row's greatest magnitude as a column. -/
def amaxs : FVec Ideal S16384x1 .f32 :=
  shapeCast S16384x1 (multiReduction .maximumf [1] S16384 (absf (k0_pay3 (F := Ideal) v0 v3)) 0xFF800000#32 reduces_S16384x4096_S16384 (.inl rfl) rfl) shapeCasts_S16384_S16384x1

theorem amaxs_apply (r : Fin 16384) : amaxs v0 v3 (ix2 r (0 : Fin 1)) = Spec.amax (Layer.row v0 v3 r) := by
  unfold amaxs
  refine (Rows.cast_col _ _ r 0).trans ?_
  refine eq_of_forall_ge_iff fun b => ?_
  rw [Spec.amax_le]
  refine (Rows.max_row_le _ _ _ _ r b).trans (forall_congr' fun f => ?_)
  show Spec.mag (k0_pay3 (F := Ideal) v0 v3 (ix2 r f)) ≤ b ↔ _
  rw [hidden_apply]

/-- The powers 2⁻¹²⁶ … 2¹²⁰ in a row. -/
def pows : FVec Ideal S1x247 .f32 := exp2 (sitofp .f32 (subi (iota .tc S1x247 32 [1] iota_S1x247_d1_w32) (broadcast S1x247 126#32)))

theorem pows_apply (k : Fin 247) : pows (ix2 (0 : Fin 1) k) = Spec.two ((k.val : ℤ) - 126) := by
  have e : iota .tc S1x247 32 [1] iota_S1x247_d1_w32 (ix2 (0 : Fin 1) k) = BitVec.ofNat 32 k.val := iota_single_apply _ _ _ _ _ _
  show Ideal.exp2 (((iota .tc S1x247 32 [1] iota_S1x247_d1_w32 (ix2 (0 : Fin 1) k) - 126#32).toInt : ℝ) : EReal) = _
  rw [e, Spec.power_exp2 k.val k.isLt]

/-- Per row and power: the power when it exceeds the row's `amax / 448`, else the largest power. -/
def above (a : FVec Ideal S16384x1 .f32) : FVec Ideal S16384x247 .f32 :=
  select (cmpf .olt (broadcastTo S16384x247 (mulf a (broadcast S16384x1 (Scalar.ofBits .f32 0x3B124925#32))) broadcasts_S16384x1_S16384x247)
    (broadcastTo S16384x247 pows broadcasts_S1x247_S16384x247)) (broadcastTo S16384x247 pows broadcasts_S1x247_S16384x247)
    (broadcast S16384x247 (Scalar.ofBits .f32 0x7B800000#32))

theorem above_apply (a : FVec Ideal S16384x1 .f32) (r : Fin 16384) (k : Fin 247) :
    above a (ix2 r k) = if a (ix2 r (0 : Fin 1)) * Spec.recip < Spec.two ((k.val : ℤ) - 126) then Spec.two ((k.val : ℤ) - 126) else Spec.two 120 := by
  have e1 : broadcastTo S16384x247 (mulf a (broadcast S16384x1 (Scalar.ofBits .f32 0x3B124925#32))) broadcasts_S16384x1_S16384x247 (ix2 r k)
      = a (ix2 r (0 : Fin 1)) * Spec.recip := Rows.bcast_col _ _ r k
  have e2 : broadcastTo S16384x247 pows broadcasts_S1x247_S16384x247 (ix2 r k) = Spec.two ((k.val : ℤ) - 126) :=
    (broadcastTo_1b_ab_apply _ _ r k).trans (pows_apply k)
  show (if Ideal.cmp .olt (broadcastTo S16384x247 _ _ (ix2 r k)) (broadcastTo S16384x247 _ _ (ix2 r k)) = 1#1 then broadcastTo S16384x247 _ _ (ix2 r k)
    else Ideal.ofBits .f32 0x7B800000#32) = _
  rw [e1, e2, Spec.top_word]
  unfold Ideal.cmp
  by_cases h : a (ix2 r (0 : Fin 1)) * Spec.recip < Spec.two ((k.val : ℤ) - 126) <;> simp [h]

/-- The least power above each row's `amax / 448`. -/
def least (a : FVec Ideal S16384x1 .f32) : FVec Ideal S16384x1 .f32 :=
  shapeCast S16384x1 (multiReduction .minimumf [1] S16384 (above a) 0x7F800000#32 reduces_S16384x247_S16384 (.inl rfl) rfl) shapeCasts_S16384_S16384x1

theorem least_apply (a : FVec Ideal S16384x1 .f32) (r : Fin 16384) :
    least a (ix2 r (0 : Fin 1)) = Spec.two ((Spec.cnt (a (ix2 r (0 : Fin 1)) * Spec.recip) : ℤ) - 126) := by
  unfold least
  refine (Rows.cast_col _ _ r 0).trans ((Rows.min_row _ _ _ _ r).trans ?_)
  exact Spec.least_eq _ _ fun k => above_apply a r k

/-- The scale column from the greatest magnitudes. -/
def scaleCol (a : FVec Ideal S16384x1 .f32) : FVec Ideal S16384x1 .f32 :=
  select (andi (cmpf .ogt (mulf a (broadcast S16384x1 (Scalar.ofBits .f32 0x3B124925#32))) (broadcast S16384x1 (Scalar.ofBits .f32 0x00000000#32)))
      (cmpf .olt (mulf a (broadcast S16384x1 (Scalar.ofBits .f32 0x3B124925#32))) (broadcast S16384x1 (Scalar.ofBits .f32 0x7F800000#32))))
    (least a) (broadcast S16384x1 (Scalar.ofBits .f32 0x3F800000#32))

theorem scaleCol_apply (a : FVec Ideal S16384x1 .f32) (r : Fin 16384) : scaleCol a (ix2 r (0 : Fin 1)) = Spec.scale (a (ix2 r (0 : Fin 1))) := by
  show (if Ideal.cmp .ogt (a (ix2 r (0 : Fin 1)) * Spec.recip) (Ideal.ofBits .f32 0x00000000#32)
        &&& Ideal.cmp .olt (a (ix2 r (0 : Fin 1)) * Spec.recip) (Ideal.ofBits .f32 0x7F800000#32) = 1#1
      then least a (ix2 r (0 : Fin 1)) else Ideal.ofBits .f32 0x3F800000#32) = _
  rw [least_apply, Ideal.ofBits_zero_f32, Ideal.ofBits_one_f32, Rows.ofBits_top]
  unfold Spec.scale
  simp only [Rows.between]

theorem scale_eq : k0_pay4 (F := Ideal) v0 v3 = scaleCol (amaxs v0 v3) := by
  unfold k0_pay4
  simp only [shapeCast_self]
  rfl

/-- A row's scale. -/
theorem scale_apply (r : Fin 16384) : k0_pay4 (F := Ideal) v0 v3 (ix2 r (0 : Fin 1)) = Spec.scale (Spec.amax (Layer.row v0 v3 r)) := by
  rw [scale_eq, scaleCol_apply, amaxs_apply]

/-- The reciprocal of a column, broadcast along the rows. -/
theorem recip_apply (s : FVec Ideal S16384x1 .f32) (r : Fin 16384) (f : Fin 4096) :
    broadcastTo S16384x4096 (divf (broadcast S16384x1 (Scalar.ofBits .f32 0x3F800000#32)) s) broadcasts_S16384x1_S16384x4096 (ix2 r f)
      = Ideal.div 1 (s (ix2 r (0 : Fin 1))) := by
  refine (Rows.bcast_col _ _ r f).trans ?_
  show Ideal.div (Ideal.ofBits .f32 0x3F800000#32) (s (ix2 r (0 : Fin 1))) = _
  rw [Ideal.ofBits_one_f32]

/-- The stored codes. -/
def codes : FVec Ideal S16384x4096 .fp8e4m3 := k0_pay1 (F := Ideal) (k0_pay5 (F := Ideal) v0 v3) (k0_pay6 (F := Ideal))

/-- A row's codes. -/
theorem code_apply (r : Fin 16384) (f : Fin 4096) :
    codes v0 v3 (ix2 r f) = Spec.code (Spec.amax (Layer.row v0 v3 r)) (Layer.row v0 v3 r f) := by
  have e : broadcastTo S16384x4096 (divf (broadcast S16384x1 (Scalar.ofBits .f32 0x3F800000#32)) (k0_pay4 (F := Ideal) v0 v3)) broadcasts_S16384x1_S16384x4096 (ix2 r f)
      = Ideal.div 1 (Spec.scale (Spec.amax (Layer.row v0 v3 r))) := by
    rw [recip_apply, scale_apply]
  have e2 : codes v0 v3 (ix2 r f) = min (Ideal.ofBits .f32 0x43E00000#32) (max (Ideal.ofBits .f32 0xC3E00000#32)
      (k0_pay3 (F := Ideal) v0 v3 (ix2 r f)
        * broadcastTo S16384x4096 (divf (broadcast S16384x1 (Scalar.ofBits .f32 0x3F800000#32)) (k0_pay4 (F := Ideal) v0 v3)) broadcasts_S16384x1_S16384x4096 (ix2 r f))) := by
    unfold codes k0_pay5
    simp only [shapeCast_self]
    generalize k0_pay3 (F := Ideal) v0 v3 = H
    generalize k0_pay4 (F := Ideal) v0 v3 = s
    rfl
  rw [e2, e, hidden_apply]
  rfl

/-- A row's output. -/
theorem out_apply (d : FVec Ideal S4096x2048 .fp8e4m3) (s : FVec Ideal S1x2048 .f32) (r : Fin 16384) (q : Fin 2048) :
    k0_pay2 (F := Ideal) (k0_pay4 (F := Ideal) v0 v3) (k0_pay5 (F := Ideal) v0 v3) (k0_pay6 (F := Ideal)) d s (ix2 r q)
      = Spec.out (Layer.row v0 v3 r) (fun f => d (ix2 f q)) (s (ix2 (0 : Fin 1) q)) := by
  have e1 : k0_pay2 (F := Ideal) (k0_pay4 (F := Ideal) v0 v3) (k0_pay5 (F := Ideal) v0 v3) (k0_pay6 (F := Ideal)) d s (ix2 r q)
      = matmul (φ₁ := .fp8e4m3) (φ₂ := .fp8e4m3) dot_S16384x4096_S4096x2048_S16384x2048_1_0_0_1_n_n none (codes v0 v3) d (constant S16384x2048 .f32 0x00000000#32) (ix2 r q)
        * broadcastTo S16384x2048 (k0_pay4 (F := Ideal) v0 v3) broadcasts_S16384x1_S16384x2048 (ix2 r q)
        * broadcastTo S16384x2048 s broadcasts_S1x2048_S16384x2048 (ix2 r q) := by
    unfold k0_pay2
    simp only [shapeCast_self]
    rfl
  have e2 : matmul (φ₁ := .fp8e4m3) (φ₂ := .fp8e4m3) dot_S16384x4096_S4096x2048_S16384x2048_1_0_0_1_n_n none (codes v0 v3) d (constant S16384x2048 .f32 0x00000000#32) (ix2 r q)
      = Spec.dot (fun f => Spec.code (Spec.amax (Layer.row v0 v3 r)) (Layer.row v0 v3 r f)) (fun f => d (ix2 f q)) := by
    refine (Ideal.matmul_plain_apply (φ₁ := .fp8e4m3) (φ₂ := .fp8e4m3) (M := 16384) (K := 4096) (N := 2048) none (codes v0 v3) d (constant S16384x2048 .f32 0x00000000#32) r q).trans ?_
    show Ideal.ofBits .f32 0x00000000#32 + _ = _
    rw [Ideal.ofBits_zero_f32, zero_add]
    exact congrArg (fun x => Spec.dot x fun f => d (ix2 f q)) (funext fun f => code_apply v0 v3 r f)
  rw [e1, e2, Rows.bcast_col, broadcastTo_1b_ab_apply, scale_apply]
  rfl

end Values

variable (m : (ℓ : Loc nD τ sig) → Buf (Elt Ideal) ℓ) (ρ : Dev nD → PrngReg)

/-- The activations as rows. -/
def X (c : Dev nD) : Vec Ideal S16384x2048 .f32 := shapeCast S16384x2048 (m ((c : Thread nD τ).loc main_arg0)) shapeCasts_S4x4096x2048_S16384x2048
/-- The up-projection. -/
def W (c : Dev nD) : Vec Ideal S2048x8192 .bf16 := fun i => m ((c : Thread nD τ).loc main_arg1) i
/-- The down-projection's codes. -/
def D (c : Dev nD) : Vec Ideal S4096x2048 .fp8e4m3 := m ((c : Thread nD τ).loc main_arg2)
/-- The down-projection's column scales as a row. -/
def S (c : Dev nD) : Vec Ideal S1x2048 .f32 := shapeCast S1x2048 (m ((c : Thread nD τ).loc main_arg3)) shapeCasts_S2048_S1x2048

theorem V_v0 (c : Dev nD) : V m c main_v0 = X m c := by
  unfold V
  after_results
  rfl

theorem V_v1 (c : Dev nD) : V m c main_v1 = W m c := by
  unfold V
  after_results
  rfl

theorem V_v2 (c : Dev nD) : V m c main_v2 = S m c := by
  unfold V
  after_results
  rfl

/-! ## The blocks' places: the one grid point's blocks are the whole arrays -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

theorem emb0 (t : Fin cfg0.N) (j) : ((cfg0.win 0).blk t).view.emb j = j := by
  obtain ⟨e0, e1⟩ := idx0 t
  funext a
  apply Fin.ext
  match a with
  | ⟨0, _⟩ => show win0_0.index t (0 : Fin 2) * 16384 + 1 * (j 0).val = (j 0).val; omega
  | ⟨1, _⟩ => show win0_0.index t (1 : Fin 2) * 2048 + 1 * (j 1).val = (j 1).val; omega

theorem emb1 (t : Fin cfg0.N) (j) : ((cfg0.win 1).blk t).view.emb j = j := by
  obtain ⟨e0, e1⟩ := idx1 t
  funext a
  apply Fin.ext
  match a with
  | ⟨0, _⟩ => show win0_1.index t (0 : Fin 2) * 2048 + 1 * (j 0).val = (j 0).val; omega
  | ⟨1, _⟩ => show win0_1.index t (1 : Fin 2) * 8192 + 1 * (j 1).val = (j 1).val; omega

theorem emb2 (t : Fin cfg0.N) (j) : ((cfg0.win 2).blk t).view.emb j = j := by
  obtain ⟨e0, e1⟩ := idx2 t
  funext a
  apply Fin.ext
  match a with
  | ⟨0, _⟩ => show win0_2.index t (0 : Fin 2) * 4096 + 1 * (j 0).val = (j 0).val; omega
  | ⟨1, _⟩ => show win0_2.index t (1 : Fin 2) * 2048 + 1 * (j 1).val = (j 1).val; omega

theorem emb3 (t : Fin cfg0.N) (j) : ((cfg0.win 3).blk t).view.emb j = j := by
  obtain ⟨e0, e1⟩ := idx3 t
  funext a
  apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega

theorem emb4 (t : Fin cfg0.N) (j) : ((cfg0.win 4).blk t).view.emb j = j := by
  obtain ⟨e0, e1⟩ := idx4 t
  funext a
  apply Fin.ext
  match a with
  | ⟨0, _⟩ => show win0_4.index t (0 : Fin 2) * 16384 + 1 * (j 0).val = (j 0).val; omega
  | ⟨1, _⟩ => show win0_4.index t (1 : Fin 2) * 2048 + 1 * (j 1).val = (j 1).val; omega

theorem emb5 (t : Fin cfg0.N) (j) : ((cfg0.win 5).blk t).view.emb j = j := by
  obtain ⟨e0, e1⟩ := idx5 t
  funext a
  apply Fin.ext
  match a with
  | ⟨0, _⟩ => show win0_5.index t (0 : Fin 2) * 16384 + 1 * (j 0).val = (j 0).val; omega
  | ⟨1, _⟩ => show win0_5.index t (1 : Fin 2) * 4096 + 1 * (j 1).val = (j 1).val; omega

theorem emb6 (t : Fin cfg0.N) (j) : ((cfg0.win 6).blk t).view.emb j = j := by
  obtain ⟨e0, e1⟩ := idx6 t
  funext a
  apply Fin.ext
  match a with
  | ⟨0, _⟩ => show win0_6.index t (0 : Fin 2) * 16384 + 1 * (j 0).val = (j 0).val; omega
  | ⟨1, _⟩ => show win0_6.index t (1 : Fin 2) * 1 + 1 * (j 1).val = (j 1).val; omega

theorem iblk0_eq (c : Dev nD) (t : Fin cfg0.N) : iblk m c 0 t = X m c := by
  funext j
  show V m c main_v0 (((cfg0.win 0).blk t).view.emb j) = _
  rw [emb0, V_v0]

theorem iblk1_eq (c : Dev nD) (t : Fin cfg0.N) : iblk m c 1 t = W m c := by
  funext j
  show V m c main_v1 (((cfg0.win 1).blk t).view.emb j) = _
  rw [emb1, V_v1]

theorem iblk2_eq (c : Dev nD) (t : Fin cfg0.N) : iblk m c 2 t = D m c := by
  funext j
  show V m c main_arg2 (((cfg0.win 2).blk t).view.emb j) = _
  rw [emb2, V_main_arg2]
  rfl
theorem iblk3_eq (c : Dev nD) (t : Fin cfg0.N) : iblk m c 3 t = S m c := by
  funext j
  show V m c main_v2 (((cfg0.win 3).blk t).view.emb j) = _
  rw [emb3, V_v2]

theorem hz : (![0, 0] : Fin 2 → Nat) = fun _ => 0 := by
  funext a
  match a with
  | ⟨0, _⟩ => rfl
  | ⟨1, _⟩ => rfl

section Outs

variable (x0 : Vec Ideal S16384x2048 .f32) (x1 : Vec Ideal S2048x8192 .bf16) (x2 : Vec Ideal S4096x2048 .fp8e4m3) (x3 : Vec Ideal S1x2048 .f32)

theorem pay7_eq : k0_pay7 x0 x1 x2 x3 = k0_pay4 x0 x1 := by
  unfold k0_pay7
  rw [View.ld_unit_zero (S := S16384x2048) hz, View.ld_unit_zero (S := S2048x8192) hz]

theorem pay8_eq : k0_pay8 x0 x1 x2 x3 = k0_pay5 x0 x1 := by
  unfold k0_pay8
  rw [View.ld_unit_zero (S := S16384x2048) hz, View.ld_unit_zero (S := S2048x8192) hz]

theorem out6_eq : out0_6 x0 x1 x2 x3 = k0_pay4 x0 x1 := by
  unfold out0_6
  exact (View.canon_unit_zero (Val := Elt Ideal) (e := .f32) (S := S16384x1) hz _ _).trans (pay7_eq x0 x1 x2 x3)

theorem out5_eq : out0_5 x0 x1 x2 x3 = codes x0 x1 := by
  unfold out0_5
  refine (View.canon_unit_zero (Val := Elt Ideal) (e := .fp8e4m3) (S := S16384x4096) hz _ _).trans ?_
  rw [pay8_eq]
  rfl

theorem out4_eq : out0_4 x0 x1 x2 x3 = k0_pay2 (k0_pay4 x0 x1) (k0_pay5 x0 x1) (k0_pay6 (F := Ideal)) x2 x3 := by
  unfold out0_4
  refine (View.canon_unit_zero (Val := Elt Ideal) (e := .f32) (S := S16384x2048) hz _ _).trans ?_
  rw [pay7_eq, pay8_eq, View.ld_unit_zero (S := S4096x2048) hz, View.ld_unit_zero (S := S1x2048) hz]
  rfl

end Outs

/-- The first result is the layer's output. -/
theorem final4 (c : Dev nD) : (dats m 0 c).arrAt 4 cfg0.N = Layer.y (X m c) (W m c) (D m c) (S m c) := by
  refine (dats m 0 c).arrAt_eq_of_cover 4 (Layer.y (X m c) (W m c) (D m c) (S m c)) (fun t _ => ?_)
    (Pipeline.Window.Covers.cover (cfg0.win 4) (by decide +kernel) (Memref.isWhole_whole _))
  rw [flushed4, out4_eq, iblk0_eq, iblk1_eq, iblk2_eq, iblk3_eq]
  funext j
  show _ = Layer.y (X m c) (W m c) (D m c) (S m c) (((cfg0.win 4).blk t).view.emb j)
  rw [emb4]
  have h0 : (j 0).val < 16384 := (j 0).isLt
  have h1 : (j 1).val < 2048 := (j 1).isLt
  obtain ⟨r, q, rfl⟩ : ∃ (r : Fin 16384) (q : Fin 2048), j = ix2 r q := ⟨⟨(j 0).val, h0⟩, ⟨(j 1).val, h1⟩, by
    funext a
    match a with
    | ⟨0, _⟩ => rfl
    | ⟨1, _⟩ => rfl⟩
  exact out_apply (X m c) (W m c) (D m c) (S m c) r q

/-- The second result is the quantised hidden activations. -/
theorem final5 (c : Dev nD) : (dats m 0 c).arrAt 5 cfg0.N = Layer.codes (X m c) (W m c) := by
  refine (dats m 0 c).arrAt_eq_of_cover 5 (Layer.codes (X m c) (W m c)) (fun t _ => ?_)
    (Pipeline.Window.Covers.cover (cfg0.win 5) (by decide +kernel) (Memref.isWhole_whole _))
  rw [flushed5, out5_eq, iblk0_eq, iblk1_eq]
  funext j
  show _ = Layer.codes (X m c) (W m c) (((cfg0.win 5).blk t).view.emb j)
  rw [emb5]
  have h0 : (j 0).val < 16384 := (j 0).isLt
  have h1 : (j 1).val < 4096 := (j 1).isLt
  obtain ⟨r, q, rfl⟩ : ∃ (r : Fin 16384) (q : Fin 4096), j = ix2 r q := ⟨⟨(j 0).val, h0⟩, ⟨(j 1).val, h1⟩, by
    funext a
    match a with
    | ⟨0, _⟩ => rfl
    | ⟨1, _⟩ => rfl⟩
  exact code_apply (X m c) (W m c) r q

/-- The third result is the row scales. -/
theorem final6 (c : Dev nD) : (dats m 0 c).arrAt 6 cfg0.N = Layer.scales (X m c) (W m c) := by
  refine (dats m 0 c).arrAt_eq_of_cover 6 (Layer.scales (X m c) (W m c)) (fun t _ => ?_)
    (Pipeline.Window.Covers.cover (cfg0.win 6) (by decide +kernel) (Memref.isWhole_whole _))
  rw [flushed6, out6_eq, iblk0_eq, iblk1_eq]
  funext j
  show _ = Layer.scales (X m c) (W m c) (((cfg0.win 6).blk t).view.emb j)
  rw [emb6]
  have h0 : (j 0).val < 16384 := (j 0).isLt
  have h1 : (j 1).val < 1 := (j 1).isLt
  obtain ⟨r, q, rfl⟩ : ∃ (r : Fin 16384) (q : Fin 1), j = ix2 r q := ⟨⟨(j 0).val, h0⟩, ⟨(j 1).val, h1⟩, by
    funext a
    match a with
    | ⟨0, _⟩ => rfl
    | ⟨1, _⟩ => rfl⟩
  obtain rfl : q = 0 := Subsingleton.elim _ _
  exact scale_apply (X m c) (W m c) r

end Cert.RefArrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelArrays
public import proofs.«01_k».proof.Proof.RefArrays
public import Idealize.ShloMosaic.Adequacy
public import Idealize.ShloMosaic.Init

@[expose] public section

noncomputable section

namespace Cert.Proof

open Idealize.ShloMosaic Idealize.SL.Sem Cert.Kernel

/-- Kernel and reference compute the same three arrays over the extended reals. -/
theorem algebraic : Cert.algebraic_KernelIdeal_ReferenceIdeal := by
  intro m g m' g' _ hargs
  refine ⟨fun c => Layer.y (KernelArrays.X m c) (KernelArrays.W m c) (KernelArrays.D m c) (KernelArrays.S m c),
    fun c => Layer.codes (KernelArrays.X m c) (KernelArrays.W m c), fun c => Layer.scales (KernelArrays.X m c) (KernelArrays.W m c),
    (θ_run _ _ _).mono (fun r h c => ?_) (Cert.KernelIdeal.Value.run_blocks (F := Ideal) m g),
    (θ_run _ _ _).mono (fun r h c => ?_) (Cert.ReferenceIdeal.Value.run_blocks (F := Ideal) m' g')⟩
  · obtain ⟨h4, h5, h6, hk⟩ := h c
    exact ⟨h4.trans (KernelArrays.final4 m c), h5.trans (KernelArrays.final5 m c), h6.trans (KernelArrays.final6 m c), hk⟩
  · obtain ⟨h4, h5, h6, hk⟩ := h c
    obtain ⟨a0, a1, a2, a3⟩ := hargs c
    have eX : RefArrays.X m' c = KernelArrays.X m c := congrArg (fun x => shapeCast Cert.KernelIdeal.S16384x2048 x _) a0
    have eW : RefArrays.W m' c = KernelArrays.W m c := funext fun i => congrFun a1 i
    have eD : RefArrays.D m' c = KernelArrays.D m c := a2
    have eS : RefArrays.S m' c = KernelArrays.S m c := congrArg (fun x => shapeCast Cert.KernelIdeal.S1x2048 x _) a3
    refine ⟨(h4.trans (RefArrays.final4 m' c)).trans ?_, (h5.trans (RefArrays.final5 m' c)).trans ?_,
      (h6.trans (RefArrays.final6 m' c)).trans ?_, hk⟩
    · rw [eX, eW, eD, eS]
    · rw [eX, eW]
    · rw [eX, eW]

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
